-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_MoeS (m : (ℓ : Loc Cert.MoeS.nD Cert.MoeS.τ Cert.MoeS.sig) → Buf (Elt Bits) ℓ) : Prop :=
  True

def Pre_MoeSIdeal (m : (ℓ : Loc Cert.MoeSIdeal.nD Cert.MoeSIdeal.τ Cert.MoeSIdeal.sig) → Buf (Elt Ideal) ℓ) : Prop :=
  True

def Pre_MoeSReferenceIdeal (m : (ℓ : Loc Cert.MoeSReferenceIdeal.nD Cert.MoeSReferenceIdeal.τ Cert.MoeSReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_MoeS [hMoeS : Cert.MoeS.Facts] : Prop :=
  ∀ (m : (ℓ : Loc Cert.MoeS.nD Cert.MoeS.τ Cert.MoeS.sig) → Buf (Elt Bits) ℓ) (g : Dev Cert.MoeS.nD → PrngReg), Pre_MoeS m →
    θ_run (Cert.MoeS.defs (F := Bits)) (onTc (τ := Cert.MoeS.τ) (Cert.MoeS.main (F := Bits))) ⟨m, fun _ => 0, g⟩ (fun r => (∀ c : Dev Cert.MoeS.nD,
      r.2.mem ((c.tc : Thread Cert.MoeS.nD Cert.MoeS.τ).loc Cert.MoeS.main_arg0) = m ((c.tc : Thread Cert.MoeS.nD Cert.MoeS.τ).loc Cert.MoeS.main_arg0)
      ∧ r.2.mem ((c.tc : Thread Cert.MoeS.nD Cert.MoeS.τ).loc Cert.MoeS.main_arg1) = m ((c.tc : Thread Cert.MoeS.nD Cert.MoeS.τ).loc Cert.MoeS.main_arg1)
      ∧ r.2.mem ((c.tc : Thread Cert.MoeS.nD Cert.MoeS.τ).loc Cert.MoeS.main_arg2) = m ((c.tc : Thread Cert.MoeS.nD Cert.MoeS.τ).loc Cert.MoeS.main_arg2)
      ∧ r.2.mem ((c.tc : Thread Cert.MoeS.nD Cert.MoeS.τ).loc Cert.MoeS.main_arg3) = m ((c.tc : Thread Cert.MoeS.nD Cert.MoeS.τ).loc Cert.MoeS.main_arg3)
      ∧ r.2.mem ((c.tc : Thread Cert.MoeS.nD Cert.MoeS.τ).loc Cert.MoeS.main_arg4) = m ((c.tc : Thread Cert.MoeS.nD Cert.MoeS.τ).loc Cert.MoeS.main_arg4)
      ∧ r.2.mem ((c.tc : Thread Cert.MoeS.nD Cert.MoeS.τ).loc Cert.MoeS.main_arg5) = m ((c.tc : Thread Cert.MoeS.nD Cert.MoeS.τ).loc Cert.MoeS.main_arg5)
      ∧ r.2.mem ((c.tc : Thread Cert.MoeS.nD Cert.MoeS.τ).loc Cert.MoeS.main_arg6) = m ((c.tc : Thread Cert.MoeS.nD Cert.MoeS.τ).loc Cert.MoeS.main_arg6))
      ∧ r.2.sem = fun _ => 0)

def quiescent_MoeSIdeal [hMoeSIdeal : Cert.MoeSIdeal.Facts] : Prop :=
  ∀ (m : (ℓ : Loc Cert.MoeSIdeal.nD Cert.MoeSIdeal.τ Cert.MoeSIdeal.sig) → Buf (Elt Ideal) ℓ) (g : Dev Cert.MoeSIdeal.nD → PrngReg), Pre_MoeSIdeal m →
    θ_run (Cert.MoeSIdeal.defs (F := Ideal)) (onTc (τ := Cert.MoeSIdeal.τ) (Cert.MoeSIdeal.main (F := Ideal))) ⟨m, fun _ => 0, g⟩ (fun r => (∀ c : Dev Cert.MoeSIdeal.nD,
      r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
      ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
      ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
      ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
      ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
      ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
      ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6))
      ∧ r.2.sem = fun _ => 0)

def quiescent_MoeSReferenceIdeal [hMoeSReferenceIdeal : Cert.MoeSReferenceIdeal.Facts] : Prop :=
  ∀ (m : (ℓ : Loc Cert.MoeSReferenceIdeal.nD Cert.MoeSReferenceIdeal.τ Cert.MoeSReferenceIdeal.sig) → Buf (Elt Ideal) ℓ) (g : Dev Cert.MoeSReferenceIdeal.nD → PrngReg), Pre_MoeSReferenceIdeal m →
    θ_run (Cert.MoeSReferenceIdeal.defs (F := Ideal)) (onTc (τ := Cert.MoeSReferenceIdeal.τ) (Cert.MoeSReferenceIdeal.main (F := Ideal))) ⟨m, fun _ => 0, g⟩ (fun r => (∀ c : Dev Cert.MoeSReferenceIdeal.nD,
      r.2.mem ((c.tc : Thread Cert.MoeSReferenceIdeal.nD Cert.MoeSReferenceIdeal.τ).loc Cert.MoeSReferenceIdeal.main_arg0) = m ((c.tc : Thread Cert.MoeSReferenceIdeal.nD Cert.MoeSReferenceIdeal.τ).loc Cert.MoeSReferenceIdeal.main_arg0)
      ∧ r.2.mem ((c.tc : Thread Cert.MoeSReferenceIdeal.nD Cert.MoeSReferenceIdeal.τ).loc Cert.MoeSReferenceIdeal.main_arg1) = m ((c.tc : Thread Cert.MoeSReferenceIdeal.nD Cert.MoeSReferenceIdeal.τ).loc Cert.MoeSReferenceIdeal.main_arg1)
      ∧ r.2.mem ((c.tc : Thread Cert.MoeSReferenceIdeal.nD Cert.MoeSReferenceIdeal.τ).loc Cert.MoeSReferenceIdeal.main_arg2) = m ((c.tc : Thread Cert.MoeSReferenceIdeal.nD Cert.MoeSReferenceIdeal.τ).loc Cert.MoeSReferenceIdeal.main_arg2)
      ∧ r.2.mem ((c.tc : Thread Cert.MoeSReferenceIdeal.nD Cert.MoeSReferenceIdeal.τ).loc Cert.MoeSReferenceIdeal.main_arg3) = m ((c.tc : Thread Cert.MoeSReferenceIdeal.nD Cert.MoeSReferenceIdeal.τ).loc Cert.MoeSReferenceIdeal.main_arg3)
      ∧ r.2.mem ((c.tc : Thread Cert.MoeSReferenceIdeal.nD Cert.MoeSReferenceIdeal.τ).loc Cert.MoeSReferenceIdeal.main_arg4) = m ((c.tc : Thread Cert.MoeSReferenceIdeal.nD Cert.MoeSReferenceIdeal.τ).loc Cert.MoeSReferenceIdeal.main_arg4)
      ∧ r.2.mem ((c.tc : Thread Cert.MoeSReferenceIdeal.nD Cert.MoeSReferenceIdeal.τ).loc Cert.MoeSReferenceIdeal.main_arg5) = m ((c.tc : Thread Cert.MoeSReferenceIdeal.nD Cert.MoeSReferenceIdeal.τ).loc Cert.MoeSReferenceIdeal.main_arg5)
      ∧ r.2.mem ((c.tc : Thread Cert.MoeSReferenceIdeal.nD Cert.MoeSReferenceIdeal.τ).loc Cert.MoeSReferenceIdeal.main_arg6) = m ((c.tc : Thread Cert.MoeSReferenceIdeal.nD Cert.MoeSReferenceIdeal.τ).loc Cert.MoeSReferenceIdeal.main_arg6))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10)
      ∧ r.2.mem ((c.tc : Thread Cert.SampleReferenceIdeal.nD Cert.SampleReferenceIdeal.τ).loc Cert.SampleReferenceIdeal.main_arg11) = m ((c.tc : Thread Cert.SampleReferenceIdeal.nD Cert.SampleReferenceIdeal.τ).loc Cert.SampleReferenceIdeal.main_arg11)
      ∧ r.2.mem ((c.tc : Thread Cert.SampleReferenceIdeal.nD Cert.SampleReferenceIdeal.τ).loc Cert.SampleReferenceIdeal.main_arg12) = m ((c.tc : Thread Cert.SampleReferenceIdeal.nD Cert.SampleReferenceIdeal.τ).loc Cert.SampleReferenceIdeal.main_arg12)
      ∧ r.2.mem ((c.tc : Thread Cert.SampleReferenceIdeal.nD Cert.SampleReferenceIdeal.τ).loc Cert.SampleReferenceIdeal.main_arg13) = m ((c.tc : Thread Cert.SampleReferenceIdeal.nD Cert.SampleReferenceIdeal.τ).loc Cert.SampleReferenceIdeal.main_arg13)
      ∧ r.2.mem ((c.tc : Thread Cert.SampleReferenceIdeal.nD Cert.SampleReferenceIdeal.τ).loc Cert.SampleReferenceIdeal.main_arg14) = m ((c.tc : Thread Cert.SampleReferenceIdeal.nD Cert.SampleReferenceIdeal.τ).loc Cert.SampleReferenceIdeal.main_arg14)
      ∧ r.2.mem ((c.tc : Thread Cert.SampleReferenceIdeal.nD Cert.SampleReferenceIdeal.τ).loc Cert.SampleReferenceIdeal.main_arg15) = m ((c.tc : Thread Cert.SampleReferenceIdeal.nD Cert.SampleReferenceIdeal.τ).loc Cert.SampleReferenceIdeal.main_arg15))
      ∧ r.2.sem = fun _ => 0)

def preserves_Moe_MoeIdeal : Prop :=
  True

def algebraic_MoeIdeal_MoeReferenceIdeal [hMoeIdeal : Cert.MoeIdeal.Facts] [hMoeReferenceIdeal : Cert.MoeReferenceIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v11)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v11) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v30) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6))

def preserves_MoeS_MoeSIdeal : Prop :=
  True

def algebraic_MoeSIdeal_MoeSReferenceIdeal [hMoeSIdeal : Cert.MoeSIdeal.Facts] [hMoeSReferenceIdeal : Cert.MoeSReferenceIdeal.Facts] : Prop :=
  ∀ (m : (ℓ : Loc Cert.MoeSIdeal.nD Cert.MoeSIdeal.τ Cert.MoeSIdeal.sig) → Buf (Elt Ideal) ℓ) (g : Dev Cert.MoeSIdeal.nD → PrngReg)
    (m' : (ℓ : Loc Cert.MoeSReferenceIdeal.nD Cert.MoeSReferenceIdeal.τ Cert.MoeSReferenceIdeal.sig) → Buf (Elt Ideal) ℓ) (g' : Dev Cert.MoeSReferenceIdeal.nD → PrngReg), Pre_MoeSIdeal m →
    (∀ c : Dev Cert.MoeSIdeal.nD,
      m' ((c.tc : Thread Cert.MoeSReferenceIdeal.nD Cert.MoeSReferenceIdeal.τ).loc Cert.MoeSReferenceIdeal.main_arg0) = m ((c.tc : Thread Cert.MoeSIdeal.nD Cert.MoeSIdeal.τ).loc Cert.MoeSIdeal.main_arg0)
      ∧ m' ((c.tc : Thread Cert.MoeSReferenceIdeal.nD Cert.MoeSReferenceIdeal.τ).loc Cert.MoeSReferenceIdeal.main_arg1) = m ((c.tc : Thread Cert.MoeSIdeal.nD Cert.MoeSIdeal.τ).loc Cert.MoeSIdeal.main_arg1)
      ∧ m' ((c.tc : Thread Cert.MoeSReferenceIdeal.nD Cert.MoeSReferenceIdeal.τ).loc Cert.MoeSReferenceIdeal.main_arg2) = m ((c.tc : Thread Cert.MoeSIdeal.nD Cert.MoeSIdeal.τ).loc Cert.MoeSIdeal.main_arg2)
      ∧ m' ((c.tc : Thread Cert.MoeSReferenceIdeal.nD Cert.MoeSReferenceIdeal.τ).loc Cert.MoeSReferenceIdeal.main_arg3) = m ((c.tc : Thread Cert.MoeSIdeal.nD Cert.MoeSIdeal.τ).loc Cert.MoeSIdeal.main_arg3)
      ∧ m' ((c.tc : Thread Cert.MoeSReferenceIdeal.nD Cert.MoeSReferenceIdeal.τ).loc Cert.MoeSReferenceIdeal.main_arg4) = m ((c.tc : Thread Cert.MoeSIdeal.nD Cert.MoeSIdeal.τ).loc Cert.MoeSIdeal.main_arg4)
      ∧ m' ((c.tc : Thread Cert.MoeSReferenceIdeal.nD Cert.MoeSReferenceIdeal.τ).loc Cert.MoeSReferenceIdeal.main_arg5) = m ((c.tc : Thread Cert.MoeSIdeal.nD Cert.MoeSIdeal.τ).loc Cert.MoeSIdeal.main_arg5)
      ∧ m' ((c.tc : Thread Cert.MoeSReferenceIdeal.nD Cert.MoeSReferenceIdeal.τ).loc Cert.MoeSReferenceIdeal.main_arg6) = m ((c.tc : Thread Cert.MoeSIdeal.nD Cert.MoeSIdeal.τ).loc Cert.MoeSIdeal.main_arg6)) →
    ∃ (v0 : (c : Dev Cert.MoeSIdeal.nD) → Buf (Elt Ideal) ((c.tc : Thread Cert.MoeSIdeal.nD Cert.MoeSIdeal.τ).loc Cert.MoeSIdeal.main_v11)),
      θ_run (Cert.MoeSIdeal.defs (F := Ideal)) (onTc (τ := Cert.MoeSIdeal.τ) (Cert.MoeSIdeal.main (F := Ideal))) ⟨m, fun _ => 0, g⟩ (fun r => ∀ c : Dev Cert.MoeSIdeal.nD,
          r.2.mem ((c.tc : Thread Cert.MoeSIdeal.nD Cert.MoeSIdeal.τ).loc Cert.MoeSIdeal.main_v11) = v0 c
          ∧ r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
          ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
          ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
          ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
          ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
          ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
          ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6))
      ∧ θ_run (Cert.MoeSReferenceIdeal.defs (F := Ideal)) (onTc (τ := Cert.MoeSReferenceIdeal.τ) (Cert.MoeSReferenceIdeal.main (F := Ideal))) ⟨m', fun _ => 0, g'⟩ (fun r => ∀ c : Dev Cert.MoeSReferenceIdeal.nD,
          r.2.mem ((c.tc : Thread Cert.MoeSReferenceIdeal.nD Cert.MoeSReferenceIdeal.τ).loc Cert.MoeSReferenceIdeal.main_v30) = v0 c
          ∧ r.2.mem ((c.tc : Thread Cert.MoeSReferenceIdeal.nD Cert.MoeSReferenceIdeal.τ).loc Cert.MoeSReferenceIdeal.main_arg0) = m' ((c.tc : Thread Cert.MoeSReferenceIdeal.nD Cert.MoeSReferenceIdeal.τ).loc Cert.MoeSReferenceIdeal.main_arg0)
          ∧ r.2.mem ((c.tc : Thread Cert.MoeSReferenceIdeal.nD Cert.MoeSReferenceIdeal.τ).loc Cert.MoeSReferenceIdeal.main_arg1) = m' ((c.tc : Thread Cert.MoeSReferenceIdeal.nD Cert.MoeSReferenceIdeal.τ).loc Cert.MoeSReferenceIdeal.main_arg1)
          ∧ r.2.mem ((c.tc : Thread Cert.MoeSReferenceIdeal.nD Cert.MoeSReferenceIdeal.τ).loc Cert.MoeSReferenceIdeal.main_arg2) = m' ((c.tc : Thread Cert.MoeSReferenceIdeal.nD Cert.MoeSReferenceIdeal.τ).loc Cert.MoeSReferenceIdeal.main_arg2)
          ∧ r.2.mem ((c.tc : Thread Cert.MoeSReferenceIdeal.nD Cert.MoeSReferenceIdeal.τ).loc Cert.MoeSReferenceIdeal.main_arg3) = m' ((c.tc : Thread Cert.MoeSReferenceIdeal.nD Cert.MoeSReferenceIdeal.τ).loc Cert.MoeSReferenceIdeal.main_arg3)
          ∧ r.2.mem ((c.tc : Thread Cert.MoeSReferenceIdeal.nD Cert.MoeSReferenceIdeal.τ).loc Cert.MoeSReferenceIdeal.main_arg4) = m' ((c.tc : Thread Cert.MoeSReferenceIdeal.nD Cert.MoeSReferenceIdeal.τ).loc Cert.MoeSReferenceIdeal.main_arg4)
          ∧ r.2.mem ((c.tc : Thread Cert.MoeSReferenceIdeal.nD Cert.MoeSReferenceIdeal.τ).loc Cert.MoeSReferenceIdeal.main_arg5) = m' ((c.tc : Thread Cert.MoeSReferenceIdeal.nD Cert.MoeSReferenceIdeal.τ).loc Cert.MoeSReferenceIdeal.main_arg5)
          ∧ r.2.mem ((c.tc : Thread Cert.MoeSReferenceIdeal.nD Cert.MoeSReferenceIdeal.τ).loc Cert.MoeSReferenceIdeal.main_arg6) = m' ((c.tc : Thread Cert.MoeSReferenceIdeal.nD Cert.MoeSReferenceIdeal.τ).loc Cert.MoeSReferenceIdeal.main_arg6))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
      ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
      ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)
      ∧ m' ((c.tc : Thread Cert.SampleReferenceIdeal.nD Cert.SampleReferenceIdeal.τ).loc Cert.SampleReferenceIdeal.main_arg10) = m ((c.tc : Thread Cert.SampleIdeal.nD Cert.SampleIdeal.τ).loc Cert.SampleIdeal.main_arg10)
      ∧ m' ((c.tc : Thread Cert.SampleReferenceIdeal.nD Cert.SampleReferenceIdeal.τ).loc Cert.SampleReferenceIdeal.main_arg11) = m ((c.tc : Thread Cert.SampleIdeal.nD Cert.SampleIdeal.τ).loc Cert.SampleIdeal.main_arg11)
      ∧ m' ((c.tc : Thread Cert.SampleReferenceIdeal.nD Cert.SampleReferenceIdeal.τ).loc Cert.SampleReferenceIdeal.main_arg12) = m ((c.tc : Thread Cert.SampleIdeal.nD Cert.SampleIdeal.τ).loc Cert.SampleIdeal.main_arg12)
      ∧ m' ((c.tc : Thread Cert.SampleReferenceIdeal.nD Cert.SampleReferenceIdeal.τ).loc Cert.SampleReferenceIdeal.main_arg13) = m ((c.tc : Thread Cert.SampleIdeal.nD Cert.SampleIdeal.τ).loc Cert.SampleIdeal.main_arg13)
      ∧ m' ((c.tc : Thread Cert.SampleReferenceIdeal.nD Cert.SampleReferenceIdeal.τ).loc Cert.SampleReferenceIdeal.main_arg14) = m ((c.tc : Thread Cert.SampleIdeal.nD Cert.SampleIdeal.τ).loc Cert.SampleIdeal.main_arg14)
      ∧ m' ((c.tc : Thread Cert.SampleReferenceIdeal.nD Cert.SampleReferenceIdeal.τ).loc Cert.SampleReferenceIdeal.main_arg15) = m ((c.tc : Thread Cert.SampleIdeal.nD Cert.SampleIdeal.τ).loc Cert.SampleIdeal.main_arg15)) →
    ∃ (v0 : (c : Dev Cert.SampleIdeal.nD) → Buf (Elt Ideal) ((c.tc : Thread Cert.SampleIdeal.nD Cert.SampleIdeal.τ).loc Cert.SampleIdeal.main_v97_4)) (v1 : (c : Dev Cert.SampleIdeal.nD) → Buf (Elt Ideal) ((c.tc : Thread Cert.SampleIdeal.nD Cert.SampleIdeal.τ).loc Cert.SampleIdeal.main_v97_5)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v97_4) = v0 c
          ∧ r.2.mem ((c.tc : Thread Cert.SampleIdeal.nD Cert.SampleIdeal.τ).loc Cert.SampleIdeal.main_v97_5) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v49) = v0 c
          ∧ r.2.mem ((c.tc : Thread Cert.SampleReferenceIdeal.nD Cert.SampleReferenceIdeal.τ).loc Cert.SampleReferenceIdeal.main_v50) = v1 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9)
          ∧ r.2.mem ((c.tc : Thread Cert.SampleReferenceIdeal.nD Cert.SampleReferenceIdeal.τ).loc Cert.SampleReferenceIdeal.main_arg10) = m' ((c.tc : Thread Cert.SampleReferenceIdeal.nD Cert.SampleReferenceIdeal.τ).loc Cert.SampleReferenceIdeal.main_arg10)
          ∧ r.2.mem ((c.tc : Thread Cert.SampleReferenceIdeal.nD Cert.SampleReferenceIdeal.τ).loc Cert.SampleReferenceIdeal.main_arg11) = m' ((c.tc : Thread Cert.SampleReferenceIdeal.nD Cert.SampleReferenceIdeal.τ).loc Cert.SampleReferenceIdeal.main_arg11)
          ∧ r.2.mem ((c.tc : Thread Cert.SampleReferenceIdeal.nD Cert.SampleReferenceIdeal.τ).loc Cert.SampleReferenceIdeal.main_arg12) = m' ((c.tc : Thread Cert.SampleReferenceIdeal.nD Cert.SampleReferenceIdeal.τ).loc Cert.SampleReferenceIdeal.main_arg12)
          ∧ r.2.mem ((c.tc : Thread Cert.SampleReferenceIdeal.nD Cert.SampleReferenceIdeal.τ).loc Cert.SampleReferenceIdeal.main_arg13) = m' ((c.tc : Thread Cert.SampleReferenceIdeal.nD Cert.SampleReferenceIdeal.τ).loc Cert.SampleReferenceIdeal.main_arg13)
          ∧ r.2.mem ((c.tc : Thread Cert.SampleReferenceIdeal.nD Cert.SampleReferenceIdeal.τ).loc Cert.SampleReferenceIdeal.main_arg14) = m' ((c.tc : Thread Cert.SampleReferenceIdeal.nD Cert.SampleReferenceIdeal.τ).loc Cert.SampleReferenceIdeal.main_arg14)
          ∧ r.2.mem ((c.tc : Thread Cert.SampleReferenceIdeal.nD Cert.SampleReferenceIdeal.τ).loc Cert.SampleReferenceIdeal.main_arg15) = m' ((c.tc : Thread Cert.SampleReferenceIdeal.nD Cert.SampleReferenceIdeal.τ).loc Cert.SampleReferenceIdeal.main_arg15))

def Claim : Prop :=
  ∃ (hMoe : Cert.Moe.Facts) (hMoeIdeal : Cert.MoeIdeal.Facts) (hMoeReferenceIdeal : Cert.MoeReferenceIdeal.Facts) (hMoeS : Cert.MoeS.Facts) (hMoeSIdeal : Cert.MoeSIdeal.Facts) (hMoeSReferenceIdeal : Cert.MoeSReferenceIdeal.Facts) (hSample : Cert.Sample.Facts) (hSampleIdeal : Cert.SampleIdeal.Facts) (hSampleReferenceIdeal : Cert.SampleReferenceIdeal.Facts),
    quiescent_Moe (hMoe := hMoe)
    ∧ quiescent_MoeIdeal (hMoeIdeal := hMoeIdeal)
    ∧ quiescent_MoeReferenceIdeal (hMoeReferenceIdeal := hMoeReferenceIdeal)
    ∧ quiescent_MoeS (hMoeS := hMoeS)
    ∧ quiescent_MoeSIdeal (hMoeSIdeal := hMoeSIdeal)
    ∧ quiescent_MoeSReferenceIdeal (hMoeSReferenceIdeal := hMoeSReferenceIdeal)
    ∧ quiescent_Sample (hSample := hSample)
    ∧ quiescent_SampleIdeal (hSampleIdeal := hSampleIdeal)
    ∧ quiescent_SampleReferenceIdeal (hSampleReferenceIdeal := hSampleReferenceIdeal)
    ∧ preserves_Moe_MoeIdeal
    ∧ algebraic_MoeIdeal_MoeReferenceIdeal (hMoeIdeal := hMoeIdeal) (hMoeReferenceIdeal := hMoeReferenceIdeal)
    ∧ preserves_MoeS_MoeSIdeal
    ∧ algebraic_MoeSIdeal_MoeSReferenceIdeal (hMoeSIdeal := hMoeSIdeal) (hMoeSReferenceIdeal := hMoeSReferenceIdeal)
    ∧ preserves_Sample_SampleIdeal
    ∧ algebraic_SampleIdeal_SampleReferenceIdeal (hSampleIdeal := hSampleIdeal) (hSampleReferenceIdeal := hSampleReferenceIdeal)
-- ==== Moe.lean ====
abbrev S16x2048x1024 : Shape := ⟨3, ![16, 2048, 1024]⟩
abbrev S32768x32 : Shape := ⟨2, ![32768, 32]⟩
abbrev S1x32x1024x256 : Shape := ⟨4, ![1, 32, 1024, 256]⟩
abbrev S1x32x256x1024 : Shape := ⟨4, ![1, 32, 256, 1024]⟩
abbrev S1024 : Shape := ⟨1, ![1024]⟩
abbrev S32x1024x256 : Shape := ⟨3, ![32, 1024, 256]⟩
abbrev S32x256x1024 : Shape := ⟨3, ![32, 256, 1024]⟩
abbrev S1x1024 : Shape := ⟨2, ![1, 1024]⟩
abbrev S32768x1024 : Shape := ⟨2, ![32768, 1024]⟩
abbrev S_ : Shape := ⟨0, ![]⟩
abbrev S32768x128 : Shape := ⟨2, ![32768, 128]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 21
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S32768x32, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1024, .f32⟩
  | .hbm, ⟨7, _⟩ => ⟨S32x1024x256, .f32⟩
  | .hbm, ⟨8, _⟩ => ⟨S32x1024x256, .bf16⟩
  | .hbm, ⟨9, _⟩ => ⟨S32x1024x256, .f32⟩
  | .hbm, ⟨10, _⟩ => ⟨S32x1024x256, .bf16⟩
  | .hbm, ⟨11, _⟩ => ⟨S32x256x1024, .f32⟩
  | .hbm, ⟨12, _⟩ => ⟨S32x256x1024, .bf16⟩
  | .hbm, ⟨13, _⟩ => ⟨S1x1024, .f32⟩
  | .hbm, ⟨14, _⟩ => ⟨S32768x1024, .f32⟩
  | .hbm, ⟨15, _⟩ => ⟨S32768x1024, .bf16⟩
  | .hbm, ⟨16, _⟩ => ⟨S32768x1024, .f32⟩
  | .hbm, ⟨17, _⟩ => ⟨S_, .i32⟩
  | .hbm, ⟨18, _⟩ => ⟨S_, .f32⟩
  | .hbm, ⟨19, _⟩ => ⟨S32768x128, .f32⟩
  | .hbm, ⟨20, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v40 : BitVec 1 := Scalar.cmpi .eq arg1 c31_i32
  let v41 : BitVec 32 := Scalar.extui v40
  let c0_i32_24 : BitVec 32 := 0#32
  let v42 : BitVec 1 := Scalar.cmpi .ne v41 c0_i32_24
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeReferenceIdeal.lean ====
abbrev S16x2048x1024 : Shape := ⟨3, ![16, 2048, 1024]⟩
abbrev S32768x32 : Shape := ⟨2, ![32768, 32]⟩
abbrev S1x32x1024x256 : Shape := ⟨4, ![1, 32, 1024, 256]⟩
abbrev S1x32x256x1024 : Shape := ⟨4, ![1, 32, 256, 1024]⟩
abbrev S1024 : Shape := ⟨1, ![1024]⟩
abbrev S32768x1024 : Shape := ⟨2, ![32768, 1024]⟩
abbrev S32x1024x256 : Shape := ⟨3, ![32, 1024, 256]⟩
abbrev S32x256x32768 : Shape := ⟨3, ![32, 256, 32768]⟩
abbrev S32x32768x256 : Shape := ⟨3, ![32, 32768, 256]⟩
abbrev S_ : Shape := ⟨0, ![]⟩
abbrev S32x256x1024 : Shape := ⟨3, ![32, 256, 1024]⟩
abbrev S32x32768x1024 : Shape := ⟨3, ![32, 32768, 1024]⟩
abbrev S32x32768 : Shape := ⟨2, ![32, 32768]⟩
abbrev S32x32768x1 : Shape := ⟨3, ![32, 32768, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S32768x32, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1024, .f32⟩
  | .hbm, ⟨7, _⟩ => ⟨S32768x1024, .f32⟩
  | .hbm, ⟨8, _⟩ => ⟨S32x1024x256, .f32⟩
  | .hbm, ⟨9, _⟩ => ⟨S32x256x32768, .f32⟩
  | .hbm, ⟨10, _⟩ => ⟨S32x32768x256, .f32⟩
  | .hbm, ⟨11, _⟩ => ⟨S32x1024x256, .f32⟩
  | .hbm, ⟨12, _⟩ => ⟨S32x256x32768, .f32⟩
  | .hbm, ⟨13, _⟩ => ⟨S32x32768x256, .f32⟩
  | .hbm, ⟨14, _⟩ => ⟨S32x32768x256, .f32⟩
  | .hbm, ⟨15, _⟩ => ⟨S32x32768x256, .f32⟩
  | .hbm, ⟨16, _⟩ => ⟨S_, .f32⟩
  | .hbm, ⟨17, _⟩ => ⟨S32x32768x256, .f32⟩
  | .hbm, ⟨18, _⟩ => ⟨S32x32768x256, .f32⟩
  | .hbm, ⟨19, _⟩ => ⟨S_, .f32⟩
  | .hbm, ⟨20, _⟩ => ⟨S32x32768x256, .f32⟩
  | .hbm, ⟨21, _⟩ => ⟨S32x32768x256, .f32⟩
  | .hbm, ⟨22, _⟩ => ⟨S32x32768x256, .f32⟩
  | .hbm, ⟨23, _⟩ => ⟨S32x32768x256, .f32⟩
  | .hbm, ⟨24, _⟩ => ⟨S32x256x1024, .f32⟩
  | .hbm, ⟨25, _⟩ => ⟨S32x32768x1024, .f32⟩
  | .hbm, ⟨26, _⟩ => ⟨S32x32768, .f32⟩
  | .hbm, ⟨27, _⟩ => ⟨S32x32768x1, .f32⟩
  | .hbm, ⟨28, _⟩ => ⟨S32x32768x1024, .f32⟩
  | .hbm, ⟨29, _⟩ => ⟨S32x32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== MoeS.lean ====
abbrev S128x1x1024 : Shape := ⟨3, ![128, 1, 1024]⟩
abbrev S128x32 : Shape := ⟨2, ![128, 32]⟩
abbrev S1x32x1024x256 : Shape := ⟨4, ![1, 32, 1024, 256]⟩
abbrev S1x32x256x1024 : Shape := ⟨4, ![1, 32, 256, 1024]⟩
abbrev S1024 : Shape := ⟨1, ![1024]⟩
abbrev S32x1024x256 : Shape := ⟨3, ![32, 1024, 256]⟩
abbrev S32x256x1024 : Shape := ⟨3, ![32, 256, 1024]⟩
abbrev S1x1024 : Shape := ⟨2, ![1, 1024]⟩
abbrev S128x1024 : Shape := ⟨2, ![128, 1024]⟩
abbrev S_ : Shape := ⟨0, ![]⟩
abbrev S128x128 : Shape := ⟨2, ![128, 128]⟩
abbrev S1x1024x256 : Shape := ⟨3, ![1, 1024, 256]⟩
abbrev S1x256x1024 : Shape := ⟨3, ![1, 256, 1024]⟩
abbrev S1024x256 : Shape := ⟨2, ![1024, 256]⟩
abbrev S128x256 : Shape := ⟨2, ![128, 256]⟩
abbrev S256x1024 : Shape := ⟨2, ![256, 1024]⟩
abbrev S128 : Shape := ⟨1, ![128]⟩
abbrev S128x1 : Shape := ⟨2, ![128, 1]⟩

abbrev nBuf : Space → Nat
  | .hbm => 21
  | .vmem => 12
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x32, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1024, .f32⟩
  | .hbm, ⟨7, _⟩ => ⟨S32x1024x256, .f32⟩
  | .hbm, ⟨8, _⟩ => ⟨S32x1024x256, .bf16⟩
  | .hbm, ⟨9, _⟩ => ⟨S32x1024x256, .f32⟩
  | .hbm, ⟨10, _⟩ => ⟨S32x1024x256, .bf16⟩
  | .hbm, ⟨11, _⟩ => ⟨S32x256x1024, .f32⟩
  | .hbm, ⟨12, _⟩ => ⟨S32x256x1024, .bf16⟩
  | .hbm, ⟨13, _⟩ => ⟨S1x1024, .f32⟩
  | .hbm, ⟨14, _⟩ => ⟨S128x1024, .f32⟩
  | .hbm, ⟨15, _⟩ => ⟨S128x1024, .bf16⟩
  | .hbm, ⟨16, _⟩ => ⟨S128x1024, .f32⟩
  | .hbm, ⟨17, _⟩ => ⟨S_, .i32⟩
  | .hbm, ⟨18, _⟩ => ⟨S_, .f32⟩
  | .hbm, ⟨19, _⟩ => ⟨S128x128, .f32⟩
  | .hbm, ⟨20, _⟩ => ⟨S128x1024, .f32⟩
  | .local _ .vmem, ⟨0, _⟩ => ⟨S128x1024, .bf16⟩
  | .local _ .vmem, ⟨1, _⟩ => ⟨S128x1024, .f32⟩
  | .local _ .vmem, ⟨2, _⟩ => ⟨S128x128, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v40 : BitVec 1 := Scalar.cmpi .eq arg1 c31_i32
  let v41 : BitVec 32 := Scalar.extui v40
  let c0_i32_24 : BitVec 32 := 0#32
  let v42 : BitVec 1 := Scalar.cmpi .ne v41 c0_i32_24
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== MoeSReferenceIdeal.lean ====
abbrev S128x1x1024 : Shape := ⟨3, ![128, 1, 1024]⟩
abbrev S128x32 : Shape := ⟨2, ![128, 32]⟩
abbrev S1x32x1024x256 : Shape := ⟨4, ![1, 32, 1024, 256]⟩
abbrev S1x32x256x1024 : Shape := ⟨4, ![1, 32, 256, 1024]⟩
abbrev S1024 : Shape := ⟨1, ![1024]⟩
abbrev S128x1024 : Shape := ⟨2, ![128, 1024]⟩
abbrev S32x1024x256 : Shape := ⟨3, ![32, 1024, 256]⟩
abbrev S32x256x128 : Shape := ⟨3, ![32, 256, 128]⟩
abbrev S32x128x256 : Shape := ⟨3, ![32, 128, 256]⟩
abbrev S_ : Shape := ⟨0, ![]⟩
abbrev S32x256x1024 : Shape := ⟨3, ![32, 256, 1024]⟩
abbrev S32x128x1024 : Shape := ⟨3, ![32, 128, 1024]⟩
abbrev S32x128 : Shape := ⟨2, ![32, 128]⟩
abbrev S32x128x1 : Shape := ⟨3, ![32, 128, 1]⟩
abbrev S128 : Shape := ⟨1, ![128]⟩
abbrev S128x1 : Shape := ⟨2, ![128, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x32, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1024, .f32⟩
  | .hbm, ⟨7, _⟩ => ⟨S128x1024, .f32⟩
  | .hbm, ⟨8, _⟩ => ⟨S32x1024x256, .f32⟩
  | .hbm, ⟨9, _⟩ => ⟨S32x256x128, .f32⟩
  | .hbm, ⟨10, _⟩ => ⟨S32x128x256, .f32⟩
  | .hbm, ⟨11, _⟩ => ⟨S32x1024x256, .f32⟩
  | .hbm, ⟨12, _⟩ => ⟨S32x256x128, .f32⟩
  | .hbm, ⟨13, _⟩ => ⟨S32x128x256, .f32⟩
  | .hbm, ⟨14, _⟩ => ⟨S32x128x256, .f32⟩
  | .hbm, ⟨15, _⟩ => ⟨S32x128x256, .f32⟩
  | .hbm, ⟨16, _⟩ => ⟨S_, .f32⟩
  | .hbm, ⟨17, _⟩ => ⟨S32x128x256, .f32⟩
  | .hbm, ⟨18, _⟩ => ⟨S32x128x256, .f32⟩
  | .hbm, ⟨19, _⟩ => ⟨S_, .f32⟩
  | .hbm, ⟨20, _⟩ => ⟨S32x128x256, .f32⟩
  | .hbm, ⟨21, _⟩ => ⟨S32x128x256, .f32⟩
  | .hbm, ⟨22, _⟩ => ⟨S32x128x256, .f32⟩
  | .hbm, ⟨23, _⟩ => ⟨S32x128x256, .f32⟩
  | .hbm, ⟨24, _⟩ => ⟨S32x256x1024, .f32⟩
  | .hbm, ⟨25, _⟩ => ⟨S32x128x1024, .f32⟩
  | .hbm, ⟨26, _⟩ => ⟨S32x128, .f32⟩
  | .hbm, ⟨27, _⟩ => ⟨S32x128x1, .f32⟩
  | .hbm, ⟨28, _⟩ => ⟨S32x128x1024, .f32⟩
  | .hbm, ⟨29, _⟩ => ⟨S32x128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S_, .f32⟩
  | .hbm, ⟨42, _⟩ => ⟨S128x1, .f32⟩
  | .hbm, ⟨43, _⟩ => ⟨S128x1, .f32⟩
  | .hbm, ⟨44, _⟩ => ⟨S128x1, .f32⟩
  | .hbm, ⟨45, _⟩ => ⟨S128x1024, .f32⟩
  | .hbm, ⟨46, _⟩ => ⟨S128x1024, .f32⟩
  | .hbm, ⟨47, _⟩ => ⟨S1x1024, .f32⟩
  | .hbm, ⟨48, _⟩ => ⟨S128x1024, .f32⟩
  | .hbm, ⟨49, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Sample.lean ====
abbrev S128x1x1024 : Shape := ⟨3, ![128, 1, 1024]⟩
abbrev S1x128x128x2x64 : Shape := ⟨5, ![1, 128, 128, 2, 64]⟩
abbrev S1x1024 : Shape := ⟨2, ![1, 1024]⟩
abbrev S1x1024x1792 : Shape := ⟨3, ![1, 1024, 1792]⟩
abbrev S1x8 : Shape := ⟨2, ![1, 8]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024x4 : Shape := ⟨3, ![1, 1024, 4]⟩
abbrev S1x4 : Shape := ⟨2, ![1, 4]⟩
abbrev S1x1024x4x8 : Shape := ⟨4, ![1, 1024, 4, 8]⟩
abbrev S1x4x8 : Shape := ⟨3, ![1, 4, 8]⟩
abbrev S1024x1792 : Shape := ⟨2, ![1024, 1792]⟩
abbrev S1024x512 : Shape := ⟨2, ![1024, 512]⟩
abbrev S1024x128 : Shape := ⟨2, ![1024, 128]⟩
abbrev S1024x8x2x32 : Shape := ⟨4, ![1024, 8, 2, 32]⟩
abbrev S1024x8x1x32 : Shape := ⟨4, ![1024, 8, 1, 32]⟩
abbrev S1024x8x32 : Shape := ⟨3, ![1024, 8, 32]⟩
abbrev S1024x8x64 : Shape := ⟨3, ![1024, 8, 64]⟩
abbrev S1024x2x2x32 : Shape := ⟨4, ![1024, 2, 2, 32]⟩
abbrev S1024x2x1x32 : Shape := ⟨4, ![1024, 2, 1, 32]⟩
abbrev S1024x2x32 : Shape := ⟨3, ![1024, 2, 32]⟩
abbrev S1024x2x64 : Shape := ⟨3, ![1024, 2, 64]⟩
abbrev S1024x1152 : Shape := ⟨2, ![1024, 1152]⟩
abbrev S1024x2432 : Shape := ⟨2, ![1024, 2432]⟩
abbrev S1024x1024 : Shape := ⟨2, ![1024, 1024]⟩
abbrev S1024 : Shape := ⟨1, ![1024]⟩
abbrev S512 : Shape := ⟨1, ![512]⟩
abbrev S8 : Shape := ⟨1, ![8]⟩
abbrev S8x128x128 : Shape := ⟨3, ![8, 128, 128]⟩
abbrev S8x1x1 : Shape := ⟨3, ![8, 1, 1]⟩
abbrev S8x64 : Shape := ⟨2, ![8, 64]⟩
abbrev S8x128 : Shape := ⟨2, ![8, 128]⟩
abbrev S8x1 : Shape := ⟨2, ![8, 1]⟩
abbrev S_ : Shape := ⟨0, ![]⟩
abbrev S48x1024 : Shape := ⟨2, ![48, 1024]⟩
abbrev S1024x4 : Shape := ⟨2, ![1024, 4]⟩
abbrev S4x1024 : Shape := ⟨2, ![4, 1024]⟩
abbrev S1 : Shape := ⟨1, ![1]⟩
abbrev S1024x4x8 : Shape := ⟨3, ![1024, 4, 8]⟩
abbrev S1024x32 : Shape := ⟨2, ![1024, 32]⟩
abbrev S32x1024 : Shape := ⟨2, ![32, 1024]⟩
abbrev S48x1 : Shape := ⟨2, ![48, 1]⟩
abbrev S4 : Shape := ⟨1, ![4]⟩
abbrev S2 : Shape := ⟨1, ![2]⟩
abbrev S4x8 : Shape := ⟨2, ![4, 8]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S128x1024 : Shape := ⟨2, ![128, 1024]⟩
abbrev S128x128x2x64 : Shape := ⟨4, ![128, 128, 2, 64]⟩
abbrev S128x128x128 : Shape := ⟨3, ![128, 128, 128]⟩
abbrev S128x128 : Shape := ⟨2, ![128, 128]⟩
abbrev S128x512 : Shape := ⟨2, ![128, 512]⟩
abbrev S128 : Shape := ⟨1, ![128]⟩
abbrev S128x1 : Shape := ⟨2, ![128, 1]⟩
abbrev S128x2432 : Shape := ⟨2, ![128, 2432]⟩
abbrev S128x2048 : Shape := ⟨2, ![128, 2048]⟩
abbrev S16x128 : Shape := ⟨2, ![16, 128]⟩
abbrev S16x128x128 : Shape := ⟨3, ![16, 128, 128]⟩
abbrev S2048x128 : Shape := ⟨2, ![2048, 128]⟩
abbrev S16x1 : Shape := ⟨2, ![16, 1]⟩
abbrev S48x128 : Shape := ⟨2, ![48, 128]⟩

abbrev nBuf : Space → Nat
  | .hbm => 131
  | .vmem => 22
  | .smem => 1
  | _ => 0

abbrev hbmTy0_0 (i : Nat) : BufTy := match i % 128 with
  | 0 => ⟨S128x1x1024, .f32⟩
  | 1 => ⟨S1x128x128x2x64, .f32⟩
  | 2 => ⟨S1x128x128x2x64, .f32⟩
  | 3 => ⟨S1x1024, .f32⟩
  | 4 => ⟨S1x1024x1792, .f32⟩
  | 5 => ⟨S1x8, .f32⟩
  | 6 => ⟨S1x512, .f32⟩
  | 7 => ⟨S1x512, .f32⟩
  | 8 => ⟨S1x8x128x128, .f32⟩
  | 9 => ⟨S1x8x128, .f32⟩
  | 10 => ⟨S1x1024x1024, .f32⟩
  | 11 => ⟨S1x1024, .f32⟩
  | 12 => ⟨S1x1024x4, .f32⟩
  | 13 => ⟨S1x4, .f32⟩
  | 14 => ⟨S1x1024x4x8, .f32⟩
  | 15 => ⟨S1x4x8, .f32⟩
  | 16 => ⟨S1024x1792, .f32⟩
  | 17 => ⟨S1024x512, .f32⟩
  | 18 => ⟨S1024x128, .f32⟩
  | 19 => ⟨S1024x8x2x32, .f32⟩
  | 20 => ⟨S1024x8x1x32, .f32⟩
  | 21 => ⟨S1024x8x32, .f32⟩
  | 22 => ⟨S1024x8x32, .f32⟩
  | 23 => ⟨S1024x8x1x32, .f32⟩
  | 24 => ⟨S1024x8x32, .f32⟩
  | 25 => ⟨S1024x8x64, .f32⟩
  | 26 => ⟨S1024x512, .f32⟩
  | 27 => ⟨S1024x2x2x32, .f32⟩
  | 28 => ⟨S1024x2x1x32, .f32⟩
  | 29 => ⟨S1024x2x32, .f32⟩
  | 30 => ⟨S1024x2x32, .f32⟩
  | 31 => ⟨S1024x2x1x32, .f32⟩
  | 32 => ⟨S1024x2x32, .f32⟩
  | 33 => ⟨S1024x2x64, .f32⟩
  | 34 => ⟨S1024x128, .f32⟩
  | 35 => ⟨S1024x1152, .f32⟩
  | 36 => ⟨S1024x2432, .f32⟩
  | 37 => ⟨S1024x2432, .bf16⟩
  | 38 => ⟨S1024x1024, .f32⟩
  | 39 => ⟨S1024x1024, .bf16⟩
  | 40 => ⟨S1024, .f32⟩
  | 41 => ⟨S1x1024, .f32⟩
  | 42 => ⟨S1024, .f32⟩
  | 43 => ⟨S1x1024, .f32⟩
  | 44 => ⟨S512, .f32⟩
  | 45 => ⟨S1x512, .f32⟩
  | 46 => ⟨S512, .f32⟩
  | 47 => ⟨S1x512, .f32⟩
  | 48 => ⟨S8, .f32⟩
  | 49 => ⟨S8x128x128, .f32⟩
  | 50 => ⟨S8x1x1, .f32⟩
  | 51 => ⟨S8, .f32⟩
  | 52 => ⟨S8x64, .f32⟩
  | 53 => ⟨S512, .f32⟩
  | 54 => ⟨S1x512, .f32⟩
  | 55 => ⟨S8x128, .f32⟩
  | 56 => ⟨S8x1, .f32⟩
  | 57 => ⟨S8, .f32⟩
  | 58 => ⟨S8x64, .f32⟩
  | 59 => ⟨S512, .f32⟩
  | 60 => ⟨S1x512, .f32⟩
  | 61 => ⟨S_, .f32⟩
  | 62 => ⟨S48x1024, .f32⟩
  | 63 => ⟨S1024x4, .f32⟩
  | 64 => ⟨S4x1024, .f32⟩
  | 65 => ⟨S_, .i32⟩
  | 66 => ⟨S1, .i32⟩
  | 67 => ⟨S48x1024, .f32⟩
  | 68 => ⟨S1024x4x8, .f32⟩
  | 69 => ⟨S1024x32, .f32⟩
  | 70 => ⟨S32x1024, .f32⟩
  | 71 => ⟨S_, .i32⟩
  | 72 => ⟨S1, .i32⟩
  | 73 => ⟨S48x1024, .f32⟩
  | 74 => ⟨S48x1024, .bf16⟩
  | 75 => ⟨S_, .f32⟩
  | 76 => ⟨S48x1, .f32⟩
  | 77 => ⟨S4, .f32⟩
  | 78 => ⟨S_, .i32⟩
  | 79 => ⟨S1, .i32⟩
  | 80 => ⟨S_, .i32⟩
  | 81 => ⟨S1, .i32⟩
  | 82 => ⟨S2, .i32⟩
  | 83 => ⟨S48x1, .f32⟩
  | 84 => ⟨S4x8, .f32⟩
  | 85 => ⟨S32, .f32⟩
  | 86 => ⟨S_, .i32⟩
  | 87 => ⟨S1, .i32⟩
  | 88 => ⟨S_, .i32⟩
  | 89 => ⟨S1, .i32⟩
  | 90 => ⟨S2, .i32⟩
  | 91 => ⟨S48x1, .f32⟩
  | 92 => ⟨S1, .i32⟩
  | 93 => ⟨S_, .i32⟩
  | 94 => ⟨S1, .i32⟩
  | 95 => ⟨S1, .i32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S1, .f32⟩
  | 108 => ⟨S1x1, .f32⟩
  | 109 => ⟨S1x32, .f32⟩
  | 110 => ⟨S1x32, .f32⟩
  | 111 => ⟨S1x32, .f32⟩
  | 112 => ⟨S1x32, .f32⟩
  | 113 => ⟨S1x1x1x32, .f32⟩
  | 114 => ⟨S1x1x4x32, .f32⟩
  | 115 => ⟨S1x128, .f32⟩
  | 116 => ⟨S1x32, .f32⟩
  | 117 => ⟨S1x1x1x32, .f32⟩
  | 118 => ⟨S1x1x4x32, .f32⟩
  | 119 => ⟨S1x128, .f32⟩
  | 120 => ⟨S128x1024, .f32⟩
  | 121 => ⟨S128x128x2x64, .f32⟩
  | 122 => ⟨S128x128x128, .f32⟩
  | 123 => ⟨S128x128x2x64, .f32⟩
  | 124 => ⟨S128x128x128, .f32⟩
  | 125 => ⟨S128x1024, .f32⟩
  | 126 => ⟨S128x1024, .bf16⟩
  | 127 => ⟨S8x128, .f32⟩
  | _ => ⟨S128x1x1024, .f32⟩

abbrev hbmTy0_1 (i : Nat) : BufTy := match i % 128 with
  | 0 => ⟨S128x128, .f32⟩
  | 1 => ⟨S128x128, .f32⟩
  | 2 => ⟨S128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x128x128, .f32⟩
  | .local _ .vmem, ⟨2, _⟩ => ⟨S128x128x128, .f32⟩
  | .local _ .vmem, ⟨3, _⟩ => ⟨S1x1024, .f32⟩
  | .local _ .vmem, ⟨4, _⟩ => ⟨S1024x2432, .bf16⟩
  | .local _ .vmem, ⟨5, _⟩ => ⟨S1x128, .f32⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x1024, .bf16⟩
  | .local _ .vmem, ⟨12, _⟩ => ⟨S1x1024, .f32⟩
  | .local _ .vmem, ⟨13, _⟩ => ⟨S48x1024, .bf16⟩
  | .local _ .vmem, ⟨14, _⟩ => ⟨S48x1, .f32⟩
  | .local _ .vmem, ⟨15, _⟩ => ⟨S128x1024, .f32⟩
  | .local _ .vmem, ⟨16, _⟩ => ⟨S128x1024, .bf16⟩
  | .local _ .vmem, ⟨17, _⟩ => ⟨S8x128, .f32⟩
  | .local _ .vmem, ⟨18, _⟩ => ⟨S128x128, .f32⟩
  | .local _ .vmem, ⟨19, _⟩ => ⟨S128x128, .f32⟩
  | .local _ .vmem, ⟨20, _⟩ => ⟨S128x512, .f32⟩
  | .local _ .vmem, ⟨21, _⟩ => ⟨S128x1024, .bf16⟩
  | .local _ .smem, ⟨0, _⟩ => ⟨S8, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_0 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_1 : Ref sig .tc := ⟨.hbm, 75, rfl⟩
abbrev main_v56 : Ref sig .tc := ⟨.hbm, 76, rfl⟩
abbrev main_v57 : Ref sig .tc := ⟨.hbm, 77, rfl⟩
abbrev main_c_2 : Ref sig .tc := ⟨.hbm, 78, rfl⟩
abbrev main_v58 : Ref sig .tc := ⟨.hbm, 79, rfl⟩
abbrev main_c_3 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_4 : Ref sig .tc := ⟨.hbm, 86, rfl⟩
abbrev main_v64 : Ref sig .tc := ⟨.hbm, 87, rfl⟩
abbrev main_c_5 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_6 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩
abbrev main_v74 : Ref sig .tc := ⟨.hbm, 100, rfl⟩
abbrev main_cst_8 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97_0 : Ref sig .tc := ⟨.hbm, 125, rfl⟩
abbrev main_v97_1 : Ref sig .tc := ⟨.hbm, 126, rfl⟩
abbrev main_v97_2 : Ref sig .tc := ⟨.hbm, 127, rfl⟩
abbrev main_v97_3 : Ref sig .tc := ⟨.hbm, 128, rfl⟩
abbrev main_v97_4 : Ref sig .tc := ⟨.hbm, 129, rfl⟩
abbrev main_v97_5 : Ref sig .tc := ⟨.hbm, 130, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_scratch0 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S48x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S48x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== SampleReferenceIdeal.lean ====
abbrev S128x1x1024 : Shape := ⟨3, ![128, 1, 1024]⟩
abbrev S1x128x128x2x64 : Shape := ⟨5, ![1, 128, 128, 2, 64]⟩
abbrev S1x1024 : Shape := ⟨2, ![1, 1024]⟩
abbrev S1x1024x1792 : Shape := ⟨3, ![1, 1024, 1792]⟩
abbrev S1x8 : Shape := ⟨2, ![1, 8]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024x4 : Shape := ⟨3, ![1, 1024, 4]⟩
abbrev S1x4 : Shape := ⟨2, ![1, 4]⟩
abbrev S1x1024x4x8 : Shape := ⟨4, ![1, 1024, 4, 8]⟩
abbrev S1x4x8 : Shape := ⟨3, ![1, 4, 8]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x1792 : Shape := ⟨2, ![1024, 1792]⟩
abbrev S128x1x1792 : Shape := ⟨3, ![128, 1, 1792]⟩
abbrev S128x1x128 : Shape := ⟨3, ![128, 1, 128]⟩
abbrev S128x1x512 : Shape := ⟨3, ![128, 1, 512]⟩
abbrev S512 : Shape := ⟨1, ![512]⟩
abbrev S1x1x512 : Shape := ⟨3, ![1, 1, 512]⟩
abbrev S128x128 : Shape := ⟨2, ![128, 128]⟩
abbrev S128x512 : Shape := ⟨2, ![128, 512]⟩

abbrev nBuf : Space → Nat
  | .hbm => 77
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x128x2x64, .f32⟩
  | .hbm, ⟨2, _⟩ => ⟨S1x128x128x2x64, .f32⟩
  | .hbm, ⟨3, _⟩ => ⟨S1x1024, .f32⟩
  | .hbm, ⟨4, _⟩ => ⟨S1x1024x1792, .f32⟩
  | .hbm, ⟨5, _⟩ => ⟨S1x8, .f32⟩
  | .hbm, ⟨6, _⟩ => ⟨S1x512, .f32⟩
  | .hbm, ⟨7, _⟩ => ⟨S1x512, .f32⟩
  | .hbm, ⟨8, _⟩ => ⟨S1x8x128x128, .f32⟩
  | .hbm, ⟨9, _⟩ => ⟨S1x8x128, .f32⟩
  | .hbm, ⟨10, _⟩ => ⟨S1x1024x1024, .f32⟩
  | .hbm, ⟨11, _⟩ => ⟨S1x1024, .f32⟩
  | .hbm, ⟨12, _⟩ => ⟨S1x1024x4, .f32⟩
  | .hbm, ⟨13, _⟩ => ⟨S1x4, .f32⟩
  | .hbm, ⟨14, _⟩ => ⟨S1x1024x4x8, .f32⟩
  | .hbm, ⟨15, _⟩ => ⟨S1x4x8, .f32⟩
  | .hbm, ⟨16, _⟩ => ⟨S1024, .f32⟩
  | .hbm, ⟨17, _⟩ => ⟨S128x1x1024, .f32⟩
  | .hbm, ⟨18, _⟩ => ⟨S_, .f32⟩
  | .hbm, ⟨19, _⟩ => ⟨S128x1, .f32⟩
  | .hbm, ⟨20, _⟩ => ⟨S128x1x1, .f32⟩
  | .hbm, ⟨21, _⟩ => ⟨S_, .f32⟩
  | .hbm, ⟨22, _⟩ => ⟨S128x1x1, .f32⟩
  | .hbm, ⟨23, _⟩ => ⟨S128x1x1, .f32⟩
  | .hbm, ⟨24, _⟩ => ⟨S_, .f32⟩
  | .hbm, ⟨25, _⟩ => ⟨S128x1x1, .f32⟩
  | .hbm, ⟨26, _⟩ => ⟨S128x1x1, .f32⟩
  | .hbm, ⟨27, _⟩ => ⟨S128x1x1, .f32⟩
  | .hbm, ⟨28, _⟩ => ⟨S128x1x1024, .f32⟩
  | .hbm, ⟨29, _⟩ => ⟨S128x1x1024, .f32⟩
  | .hbm, ⟨30, _⟩ => ⟨S1x1x1024, .f32⟩
  | .hbm, ⟨31, _⟩ => ⟨S128x1x1024, .f32⟩
  | .hbm, ⟨32, _⟩ => ⟨S128x1x1024, .f32⟩
  | .hbm, ⟨33, _⟩ => ⟨S1024x1792, .f32⟩
  | .hbm, ⟨34, _⟩ => ⟨S128x1x1792, .f32⟩
  | .hbm, ⟨35, _⟩ => ⟨S128x1x128, .f32⟩
  | .hbm, ⟨36, _⟩ => ⟨S128x1x512, .f32⟩
  | .hbm, ⟨37, _⟩ => ⟨S_, .f32⟩
  | .hbm, ⟨38, _⟩ => ⟨S128x1x512, .f32⟩
  | .hbm, ⟨39, _⟩ => ⟨S128x1x512, .f32⟩
  | .hbm, ⟨40, _⟩ => ⟨S128x1x512, .f32⟩
  | .hbm, ⟨41, _⟩ => ⟨S_, .f32⟩
  | .hbm, ⟨42, _⟩ => ⟨S128x1x512, .f32⟩
  | .hbm, ⟨43, _⟩ => ⟨S128x1x512, .f32⟩
  | .hbm, ⟨44, _⟩ => ⟨S128x1x512, .f32⟩
  | .hbm, ⟨45, _⟩ => ⟨S128x1x512, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S128x1, .f32⟩
  | .hbm, ⟨50, _⟩ => ⟨S128x1x1, .f32⟩
  | .hbm, ⟨51, _⟩ => ⟨S_, .f32⟩
  | .hbm, ⟨52, _⟩ => ⟨S128x1x1, .f32⟩
  | .hbm, ⟨53, _⟩ => ⟨S128x1x1, .f32⟩
  | .hbm, ⟨54, _⟩ => ⟨S128x1x512, .f32⟩
  | .hbm, ⟨55, _⟩ => ⟨S128x1x512, .f32⟩
  | .hbm, ⟨56, _⟩ => ⟨S128x1x512, .f32⟩
  | .hbm, ⟨57, _⟩ => ⟨S_, .f32⟩
  | .hbm, ⟨58, _⟩ => ⟨S128x1, .f32⟩
  | .hbm, ⟨59, _⟩ => ⟨S128x1x1, .f32⟩
  | .hbm, ⟨60, _⟩ => ⟨S_, .f32⟩
  | .hbm, ⟨61, _⟩ => ⟨S128x1x1, .f32⟩
  | .hbm, ⟨62, _⟩ => ⟨S128x1x1, .f32⟩
  | .hbm, ⟨63, _⟩ => ⟨S_, .f32⟩
  | .hbm, ⟨64, _⟩ => ⟨S128x1x1, .f32⟩
  | .hbm, ⟨65, _⟩ => ⟨S128x1x1, .f32⟩
  | .hbm, ⟨66, _⟩ => ⟨S128x1x1, .f32⟩
  | .hbm, ⟨67, _⟩ => ⟨S128x1x512, .f32⟩
  | .hbm, ⟨68, _⟩ => ⟨S128x1x512, .f32⟩
  | .hbm, ⟨69, _⟩ => ⟨S1x1x512, .f32⟩
  | .hbm, ⟨70, _⟩ => ⟨S128x1x512, .f32⟩
  | .hbm, ⟨71, _⟩ => ⟨S128x1x512, .f32⟩
  | .hbm, ⟨72, _⟩ => ⟨S1x1x512, .f32⟩
  | .hbm, ⟨73, _⟩ => ⟨S128x1x512, .f32⟩
  | .hbm, ⟨74, _⟩ => ⟨S128x1x512, .f32⟩
  | .hbm, ⟨75, _⟩ => ⟨S128x128, .f32⟩
  | .hbm, ⟨76, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Proof.MSpec.lean ====
/- The experts' feed-forward part as plain functions of the token, the expert and the column. The argument arrays are
   functions of natural numbers, so that the prompt's and the sample's launches share one text. -/
module

public import Idealize.ShloMosaic.Lib.Pipeline.ValueKit
public import Idealize.ShloMosaic.Lib.Pointwise
public import Idealize.ShloMosaic.PureOps.Ideal.Laws

@[expose] public section

set_option maxRecDepth 16384

noncomputable section

namespace Cert.MSpec

open Idealize.ShloMosaic Idealize.ShloMosaic.TcCoe Idealize.SL.Sem

/-- The arguments: the normalised rows, the rows added back, the combine weights, the experts' three matrices and the
    final norm's gain. -/
structure In where
  t : ℕ → ℕ → EReal
  x : ℕ → ℕ → EReal
  c : ℕ → ℕ → EReal
  wg : ℕ → ℕ → ℕ → EReal
  wu : ℕ → ℕ → ℕ → EReal
  wd : ℕ → ℕ → ℕ → EReal
  g : ℕ → EReal

variable (I : In)

def gate (e n f : ℕ) : EReal := ∑ k : Fin 1024, I.t n k * I.wg e k f
def up (e n f : ℕ) : EReal := ∑ k : Fin 1024, I.t n k * I.wu e k f

/-- `z · logistic z`. -/
def silu (z : EReal) : EReal :=
  z * Ideal.div 1 (1 + Ideal.exp (-z))

/-- One expert's output for one token. -/
def out (e n d : ℕ) : EReal := ∑ f : Fin 256, silu (gate I e n f) * up I e n f * I.wd e f d

/-- What expert `e` adds to the token's row. -/
def term (n d e : ℕ) : EReal := I.c n e * out I e n d

/-- The row with every expert's part added. -/
def total (n d : ℕ) : EReal := I.x n d + ∑ e : Fin 32, term I n d e

/-- The final norm of the row. -/
def y (n d : ℕ) : EReal :=
  total I n d * Ideal.rsqrt (Ideal.div (∑ k : Fin 1024, total I n k * total I n k) (Ideal.ofBits .f32 0x44800000#32)
    + Ideal.ofBits .f32 0x358637BD#32) * I.g d

end Cert.MSpec
-- ==== Proof.MKer.lean ====
/- The kernel's stages, read at an index, are the functions of `MSpec`. -/
module

public import proofs.«01_k».proof.Proof.MSpec
public import proofs.«01_k».proof.Proof.Gen.MoeIdeal.Skeleton
public import Idealize.ShloMosaic.Lib.WordCmp

@[expose] public section

set_option maxRecDepth 16384

noncomputable section

namespace Cert.MKer

open Idealize.ShloMosaic Idealize.ShloMosaic.TcCoe Idealize.SL.Sem
open Cert.MSpec Cert.MoeIdeal Cert.MoeIdeal.Gen

/-- The lane test: lane `l` is expert `e`'s. -/
theorem lane_eq (l : Fin 128) (e : Fin 32) :
    IntOp.cmpi .eq (BitVec.ofNat 32 l) (BitVec.ofNat 32 e) = BitVec.ofBool (decide ((l : ℕ) = e)) := by
  revert l e
  decide +kernel

theorem sel {α : Type} (p : Prop) [Decidable p] (x y : α) :
    Scalar.select (BitVec.ofBool (decide p)) x y = if p then x else y := by
  by_cases h : p <;> simp [h, Scalar.select]

theorem out_at (I : In) (n : ℕ) (e : ℕ) (r : Fin 1024) (t : Vec Ideal S1024x1024 .bf16)
    (a u : Vec Ideal S1x1024x256 .bf16) (w : Vec Ideal S1x256x1024 .bf16)
    (ht : ∀ k : Fin 1024, t (ix2 r k) = I.t n k) (ha : ∀ (k : Fin 1024) (f : Fin 256), a (ix3 0 k f) = I.wg e k f)
    (hu : ∀ (k : Fin 1024) (f : Fin 256), u (ix3 0 k f) = I.wu e k f)
    (hw : ∀ (f : Fin 256) (d : Fin 1024), w (ix3 0 f d) = I.wd e f d) (d : Fin 1024) :
    k0_pay4 t a u w (ix2 r d) = out I e n d := by
  pointwise [k0_pay4]
  simp only [ht, ha, hu, hw, zero_sub]
  rfl

theorem comb_at (i : grid0.Coords) (v : Vec Ideal S1024x128 .f32) (r : Fin 1024) :
    k0_pay5 i v (ix2 r 0) = v (ix2 r ⟨(i 1).val, lt_trans (i 1).isLt (by decide)⟩) := by
  pointwise [k0_pay5]
  have h : ∀ x : Fin 128, IntOp.cmpi .eq (BitVec.ofNat 32 x) (BitVec.ofNat 32 (i 1))
      = BitVec.ofBool (decide (x = (⟨(i 1).val, lt_trans (i 1).isLt (by decide)⟩ : Fin 128))) := fun x => by
    rw [lane_eq x (i 1)]
    simp only [Fin.ext_iff]
  simp only [h, sel]
  exact (Finset.sum_ite_eq' _ _ _).trans (if_pos (Finset.mem_univ _))

theorem step_at (o : FVec Ideal S1024x1024 .f32) (s : FVec Ideal S1024x1 .f32) (a : Vec Ideal S1024x1024 .f32)
    (r d : Fin 1024) : k0_pay1 o s a (ix2 r d) = a (ix2 r d) + s (ix2 r 0) * o (ix2 r d) := by
  pointwise [k0_pay1]

theorem init_at (a : Vec Ideal S1024x1024 .f32) : k0_pay3 a = a := by
  funext i
  rw [eq_ix2 i]
  pointwise [k0_pay3]

theorem y_at (I : In) (n : ℕ) (r : Fin 1024) (a : Vec Ideal S1024x1024 .f32) (g : Vec Ideal S1x1024 .f32)
    (ha : ∀ d : Fin 1024, a (ix2 r d) = total I n d) (hg : ∀ d : Fin 1024, g (ix2 0 d) = I.g d) (d : Fin 1024) :
    k0_pay2 a g (ix2 r d) = y I n d := by
  pointwise [k0_pay2]
  simp only [ha, hg]
  rfl

end Cert.MKer
-- ==== Proof.MRef.lean ====
/- The reference's stages, read at an index, are the functions of `MSpec`. -/
module

public import proofs.«01_k».proof.Proof.MSpec
public import proofs.«01_k».proof.Proof.Gen.MoeReferenceIdeal.Read

@[expose] public section

set_option maxRecDepth 16384

noncomputable section

namespace Cert.MRef

open Idealize.ShloMosaic Idealize.ShloMosaic.TcCoe Idealize.SL.Sem
open Cert.MSpec Cert.MoeReferenceIdeal Cert.MoeReferenceIdeal.Read

/-- The argument arrays read as functions of the token, the expert and the column. -/
def inp (x0 x1 : FVec Ideal ⟨3, ![16, 2048, 1024]⟩ .f32) (x2 : FVec Ideal ⟨2, ![32768, 32]⟩ .f32)
    (x3 x4 : FVec Ideal ⟨4, ![1, 32, 1024, 256]⟩ .f32) (x5 : FVec Ideal ⟨4, ![1, 32, 256, 1024]⟩ .f32)
    (x6 : FVec Ideal ⟨1, ![1024]⟩ .f32) : In where
  t n k := x0 (ix3 (Fin.ofNat 16 (n / 2048)) (Fin.ofNat 2048 n) (Fin.ofNat 1024 k))
  x n k := x1 (ix3 (Fin.ofNat 16 (n / 2048)) (Fin.ofNat 2048 n) (Fin.ofNat 1024 k))
  c n e := x2 (ix2 (Fin.ofNat 32768 n) (Fin.ofNat 32 e))
  wg e k f := x3 (ix4 0 (Fin.ofNat 32 e) (Fin.ofNat 1024 k) (Fin.ofNat 256 f))
  wu e k f := x4 (ix4 0 (Fin.ofNat 32 e) (Fin.ofNat 1024 k) (Fin.ofNat 256 f))
  wd e f d := x5 (ix4 0 (Fin.ofNat 32 e) (Fin.ofNat 256 f) (Fin.ofNat 1024 d))
  g d := x6 (ix1 (Fin.ofNat 1024 d))

variable (x0 x1 : FVec Ideal ⟨3, ![16, 2048, 1024]⟩ .f32) (x2 : FVec Ideal ⟨2, ![32768, 32]⟩ .f32)
    (x3 x4 : FVec Ideal ⟨4, ![1, 32, 1024, 256]⟩ .f32) (x5 : FVec Ideal ⟨4, ![1, 32, 256, 1024]⟩ .f32)
    (x6 : FVec Ideal ⟨1, ![1024]⟩ .f32)

theorem r0 (n : Fin 32768) (k : Fin 1024) : val_main_v0 (F := Ideal) x0 (ix2 n k) = (inp x0 x1 x2 x3 x4 x5 x6).t n k := by
  pointwise [val_main_v0]
  unfold inp
  refine congrArg x0 ?_
  blk_ext! <;> simp only [Fin.val_ofNat] <;> omega

theorem r16 (n : Fin 32768) (k : Fin 1024) : val_main_v16 (F := Ideal) x1 (ix2 n k) = (inp x0 x1 x2 x3 x4 x5 x6).x n k := by
  pointwise [val_main_v16]
  unfold inp
  refine congrArg x1 ?_
  blk_ext! <;> simp only [Fin.val_ofNat] <;> omega

theorem r1 (e : Fin 32) (k : Fin 1024) (f : Fin 256) : val_main_v1 (F := Ideal) x3 (ix3 e k f) = (inp x0 x1 x2 x3 x4 x5 x6).wg e k f := by
  pointwise [val_main_v1]
  unfold inp
  refine congrArg x3 ?_
  blk_ext! <;> simp only [Fin.val_ofNat] <;> omega

theorem r4 (e : Fin 32) (k : Fin 1024) (f : Fin 256) : val_main_v4 (F := Ideal) x4 (ix3 e k f) = (inp x0 x1 x2 x3 x4 x5 x6).wu e k f := by
  pointwise [val_main_v4]
  unfold inp
  refine congrArg x4 ?_
  blk_ext! <;> simp only [Fin.val_ofNat] <;> omega

theorem r9 (e : Fin 32) (f : Fin 256) (d : Fin 1024) : val_main_v9 (F := Ideal) x5 (ix3 e f d) = (inp x0 x1 x2 x3 x4 x5 x6).wd e f d := by
  pointwise [val_main_v9]
  unfold inp
  refine congrArg x5 ?_
  blk_ext! <;> simp only [Fin.val_ofNat] <;> omega

theorem r3 (e : Fin 32) (n : Fin 32768) (f : Fin 256) :
    val_main_v3 (F := Ideal) x0 x3 (ix3 e n f) = gate (inp x0 x1 x2 x3 x4 x5 x6) e n f := by
  pointwise [val_main_v3, val_main_v2]
  simp only [r0 x0 x1 x2 x3 x4 x5 x6, r1 x0 x1 x2 x3 x4 x5 x6]
  exact Finset.sum_congr rfl fun k _ => mul_comm _ _

theorem r6 (e : Fin 32) (n : Fin 32768) (f : Fin 256) :
    val_main_v6 (F := Ideal) x0 x4 (ix3 e n f) = up (inp x0 x1 x2 x3 x4 x5 x6) e n f := by
  pointwise [val_main_v6, val_main_v5]
  simp only [r0 x0 x1 x2 x3 x4 x5 x6, r4 x0 x1 x2 x3 x4 x5 x6]
  exact Finset.sum_congr rfl fun k _ => mul_comm _ _

theorem r8 (e : Fin 32) (n : Fin 32768) (f : Fin 256) :
    val_main_v8 (F := Ideal) x0 x3 x4 (ix3 e n f) = silu (gate (inp x0 x1 x2 x3 x4 x5 x6) e n f) * up (inp x0 x1 x2 x3 x4 x5 x6) e n f := by
  pointwise [val_main_v8, val_main_v7, val_main_call0_v5, val_main_call0_v4, val_main_call0_cst_0, val_main_call0_v3,
    val_main_call0_v2, val_main_call0_cst, val_main_call0_v1, val_main_call0_v0]
  simp only [r3 x0 x1 x2 x3 x4 x5 x6, r6 x0 x1 x2 x3 x4 x5 x6]
  rfl

theorem r10 (e : Fin 32) (n : Fin 32768) (d : Fin 1024) :
    val_main_v10 (F := Ideal) x0 x3 x4 x5 (ix3 e n d) = out (inp x0 x1 x2 x3 x4 x5 x6) e n d := by
  pointwise [val_main_v10]
  simp only [r8 x0 x1 x2 x3 x4 x5 x6, r9 x0 x1 x2 x3 x4 x5 x6]
  rfl

theorem r2 (n : Fin 32768) (e : Fin 32) : x2 (ix2 n e) = (inp x0 x1 x2 x3 x4 x5 x6).c n e := by
  unfold inp
  refine congrArg x2 ?_
  blk_ext! <;> simp only [Fin.val_ofNat] <;> omega

theorem r6g (d : Fin 1024) : x6 (ix1 d) = (inp x0 x1 x2 x3 x4 x5 x6).g d := by
  unfold inp
  refine congrArg x6 ?_
  blk_ext! <;> simp only [Fin.val_ofNat] <;> omega

theorem r17 (n : Fin 32768) (d : Fin 1024) :
    val_main_v17 (F := Ideal) x0 x1 x2 x3 x4 x5 (ix2 n d) = total (inp x0 x1 x2 x3 x4 x5 x6) n d := by
  pointwise [val_main_v17, val_main_v15, val_main_v14, val_main_v13, val_main_v12, val_main_v11, val_main_cst]
  simp only [r10 x0 x1 x2 x3 x4 x5 x6, r16 x0 x1 x2 x3 x4 x5 x6, r2 x0 x1 x2 x3 x4 x5 x6]
  rfl

theorem r30 (n : Fin 32768) (d : Fin 1024) :
    val_main_v30 (F := Ideal) x0 x1 x2 x3 x4 x5 x6 (ix2 n d) = y (inp x0 x1 x2 x3 x4 x5 x6) n d := by
  pointwise [val_main_v30, val_main_v29, val_main_v28, val_main_v27, val_main_v26, val_main_v25, val_main_v24,
    val_main_v23, val_main_v22, val_main_v21, val_main_v20, val_main_v19, val_main_v18, val_main_cst_0, val_main_cst_1,
    val_main_cst_2]
  simp only [r17 x0 x1 x2 x3 x4 x5 x6, r6g x0 x1 x2 x3 x4 x5 x6]
  rfl

end Cert.MRef
-- ==== Proof.MEnt.lean ====
/- The blocks of the prompt's dense mixture-of-experts launch, over the arguments. -/
module

public import proofs.«01_k».proof.Proof.MKer
public import proofs.«01_k».proof.Proof.MRef
public import proofs.«01_k».proof.Proof.Gen.MoeIdeal.Value
public import Idealize.ShloMosaic.Lib.Pipeline.ReadBack
public import Idealize.ShloMosaic.Lib.Claim
public import Idealize.ShloMosaic.Lib.StableHlo.RunRead

@[expose] public section

set_option maxRecDepth 16384

noncomputable section

namespace Cert.MVal

open Idealize.ShloMosaic Idealize.ShloMosaic.TcCoe Idealize.SL.Sem
open Cert.MSpec Cert.MRef Cert.MKer Cert.MoeIdeal Cert.MoeIdeal.Gen

variable (m : (ℓ : Loc nD τ sig) → Buf (Elt Ideal) ℓ) (c : Dev nD)

/-- The arguments of core `c`. -/
def args : In := inp (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

/-! The arrays that the region finds, over the arguments. -/

theorem e0 : V m c main_v8 = (truncf .bf16 (shapeCast S32768x1024 (m ((c : Thread nD τ).loc main_arg0)) shapeCasts_S16x2048x1024_S32768x1024 : FVec Ideal S32768x1024 .f32) bitsLt_bf16_f32 : FVec Ideal S32768x1024 .bf16) := by
  simp only [V, hostOps0, hostOps0_1, List.flatten_cons, List.flatten_nil, List.append_nil, List.cons_append, List.nil_append]
  after_reads_simp
  rfl

theorem e1 : V m c main_v9 = shapeCast S32768x1024 (m ((c : Thread nD τ).loc main_arg1)) shapeCasts_S16x2048x1024_S32768x1024 := by
  simp only [V, hostOps0, hostOps0_1, List.flatten_cons, List.flatten_nil, List.append_nil, List.cons_append, List.nil_append]
  after_reads_simp
  rfl

theorem e2 : V m c main_v10 = pad S32768x128 ![0, 0] ![0, 96] ![0, 0] (m ((c : Thread nD τ).loc main_arg2) : FVec Ideal S32768x32 .f32) (sitofp .f32 (constantI S_ 32 0#32) : FVec Ideal S_ .f32) pads_S32768x32_S32768x128_000_0960 h_S_ := by
  simp only [V, hostOps0, hostOps0_1, List.flatten_cons, List.flatten_nil, List.append_nil, List.cons_append, List.nil_append]
  after_reads_simp
  rfl

theorem e3 : V m c main_v1 = (truncf .bf16 (shapeCast S32x1024x256 (m ((c : Thread nD τ).loc main_arg3)) shapeCasts_S1x32x1024x256_S32x1024x256 : FVec Ideal S32x1024x256 .f32) bitsLt_bf16_f32 : FVec Ideal S32x1024x256 .bf16) := by
  simp only [V, hostOps0, hostOps0_1, List.flatten_cons, List.flatten_nil, List.append_nil, List.cons_append, List.nil_append]
  after_reads_simp
  rfl

theorem e4 : V m c main_v3 = (truncf .bf16 (shapeCast S32x1024x256 (m ((c : Thread nD τ).loc main_arg4)) shapeCasts_S1x32x1024x256_S32x1024x256 : FVec Ideal S32x1024x256 .f32) bitsLt_bf16_f32 : FVec Ideal S32x1024x256 .bf16) := by
  simp only [V, hostOps0, hostOps0_1, List.flatten_cons, List.flatten_nil, List.append_nil, List.cons_append, List.nil_append]
  after_reads_simp
  rfl

theorem e5 : V m c main_v5 = (truncf .bf16 (shapeCast S32x256x1024 (m ((c : Thread nD τ).loc main_arg5)) shapeCasts_S1x32x256x1024_S32x256x1024 : FVec Ideal S32x256x1024 .f32) bitsLt_bf16_f32 : FVec Ideal S32x256x1024 .bf16) := by
  simp only [V, hostOps0, hostOps0_1, List.flatten_cons, List.flatten_nil, List.append_nil, List.cons_append, List.nil_append]
  after_reads_simp
  rfl

theorem e6 : V m c main_v6 = broadcastInDim S1x1024 ![1] bcast_S1024_S1x1024_1 (m ((c : Thread nD τ).loc main_arg6)) := by
  simp only [V, hostOps0, hostOps0_1, List.flatten_cons, List.flatten_nil, List.append_nil, List.cons_append, List.nil_append]
  after_reads_simp

theorem lt (t : Fin cfg0.N) : t.val < 1024 := N_0 ▸ t.isLt

/-- The block indices of the windows that are read. -/
theorem idx : ∀ t : Fin cfg0.N, win0_0.index t = ![t.val / 32, 0] ∧ win0_1.index t = ![t.val / 32, 0]
    ∧ win0_2.index t = ![t.val / 32, 0] ∧ win0_3.index t = ![t.val % 32, 0, 0] ∧ win0_4.index t = ![t.val % 32, 0, 0]
    ∧ win0_5.index t = ![t.val % 32, 0, 0] ∧ win0_6.index t = ![0, 0] ∧ win0_7.index t = ![t.val / 32, 0]
    ∧ (grid0.coords t 1).val = t.val % 32 :=
  (by decide +kernel : ∀ t : Fin grid0.N, _)

theorem b0 (t : Fin cfg0.N) (r k : Fin 1024) : (win0_0.blk t).view.emb (ix2 r k)
    = (ix2 (⟨1024 * (t.val / 32) + r.val, by have := lt t; omega⟩ : Fin 32768) k : S32768x1024.Idx) := by
  have h := (idx t).1
  blk_ext! <;> rw [h] <;> simp <;> omega

theorem b1 (t : Fin cfg0.N) (r k : Fin 1024) : (win0_1.blk t).view.emb (ix2 r k)
    = (ix2 (⟨1024 * (t.val / 32) + r.val, by have := lt t; omega⟩ : Fin 32768) k : S32768x1024.Idx) := by
  have h := (idx t).2.1
  blk_ext! <;> rw [h] <;> simp <;> omega

theorem b2 (t : Fin cfg0.N) (r : Fin 1024) (l : Fin 128) : (win0_2.blk t).view.emb (ix2 r l)
    = (ix2 (⟨1024 * (t.val / 32) + r.val, by have := lt t; omega⟩ : Fin 32768) l : S32768x128.Idx) := by
  have h := (idx t).2.2.1
  blk_ext! <;> rw [h] <;> simp <;> omega

theorem b3 (t : Fin cfg0.N) (k : Fin 1024) (f : Fin 256) : (win0_3.blk t).view.emb (ix3 0 k f)
    = (ix3 (⟨t.val % 32, by omega⟩ : Fin 32) k f : S32x1024x256.Idx) := by
  have h := (idx t).2.2.2.1
  blk_ext! <;> rw [h] <;> simp <;> omega

theorem b4 (t : Fin cfg0.N) (k : Fin 1024) (f : Fin 256) : (win0_4.blk t).view.emb (ix3 0 k f)
    = (ix3 (⟨t.val % 32, by omega⟩ : Fin 32) k f : S32x1024x256.Idx) := by
  have h := (idx t).2.2.2.2.1
  blk_ext! <;> rw [h] <;> simp <;> omega

theorem b5 (t : Fin cfg0.N) (f : Fin 256) (d : Fin 1024) : (win0_5.blk t).view.emb (ix3 0 f d)
    = (ix3 (⟨t.val % 32, by omega⟩ : Fin 32) f d : S32x256x1024.Idx) := by
  have h := (idx t).2.2.2.2.2.1
  blk_ext! <;> rw [h] <;> simp <;> omega

theorem b6 (t : Fin cfg0.N) (k : Fin 1024) : (win0_6.blk t).view.emb (ix2 0 k)
    = (ix2 0 k : S1x1024.Idx) := by
  have h := (idx t).2.2.2.2.2.2.1
  blk_ext! <;> rw [h] <;> simp <;> omega

theorem cast_tok (x : FVec Ideal S16x2048x1024 .f32) (a : Fin 32768) (k : Fin 1024) :
    shapeCast S32768x1024 x shapeCasts_S16x2048x1024_S32768x1024 (ix2 a k)
      = x (ix3 (Fin.ofNat 16 (a.val / 2048)) (Fin.ofNat 2048 a.val) (Fin.ofNat 1024 k.val)) := by
  pointwise []
  refine congrArg x ?_
  blk_ext! <;> simp only [Fin.val_ofNat] <;> omega

theorem cast_in (x : FVec Ideal S1x32x1024x256 .f32) (e : Fin 32) (k : Fin 1024) (f : Fin 256) :
    shapeCast S32x1024x256 x shapeCasts_S1x32x1024x256_S32x1024x256 (ix3 e k f)
      = x (ix4 0 (Fin.ofNat 32 e.val) (Fin.ofNat 1024 k.val) (Fin.ofNat 256 f.val)) := by
  pointwise []
  refine congrArg x ?_
  blk_ext! <;> simp only [Fin.val_ofNat] <;> omega

theorem cast_down (x : FVec Ideal S1x32x256x1024 .f32) (e : Fin 32) (f : Fin 256) (d : Fin 1024) :
    shapeCast S32x256x1024 x shapeCasts_S1x32x256x1024_S32x256x1024 (ix3 e f d)
      = x (ix4 0 (Fin.ofNat 32 e.val) (Fin.ofNat 256 f.val) (Fin.ofNat 1024 d.val)) := by
  pointwise []
  refine congrArg x ?_
  blk_ext! <;> simp only [Fin.val_ofNat] <;> omega

theorem pad_comb (x : FVec Ideal S32768x32 .f32) (v : FVec Ideal S_ .f32) (a : Fin 32768) (l : Fin 128) (e : ℕ)
    (h : l.val = e) (he : e < 32) :
    pad S32768x128 ![0, 0] ![0, 96] ![0, 0] x v pads_S32768x32_S32768x128_000_0960 h_S_ (ix2 a l)
      = x (ix2 (Fin.ofNat 32768 a.val) (Fin.ofNat 32 e)) := by
  pointwise []
  rw [dif_pos]
  · refine congrArg x ?_
    blk_ext! <;> simp only [Fin.val_ofNat] <;> omega
  · omega

theorem vec_col (x : FVec Ideal S1024 .f32) (d : Fin 1024) :
    broadcastInDim S1x1024 ![1] bcast_S1024_S1x1024_1 x (ix2 0 d) = x (ix1 (Fin.ofNat 1024 d.val)) := by
  pointwise []
  refine congrArg x ?_
  blk_ext! <;> simp only [Fin.val_ofNat] <;> omega

theorem p0 (a : Fin 32768) (k : Fin 1024) : V m c main_v8 (ix2 a k) = (args m c).t a k := by
  rw [e0]
  exact cast_tok _ a k

theorem p1 (a : Fin 32768) (k : Fin 1024) : V m c main_v9 (ix2 a k) = (args m c).x a k := by
  rw [e1]
  exact cast_tok _ a k

theorem p2 (a : Fin 32768) (l : Fin 128) (e : ℕ) (h : l.val = e) (he : e < 32) : V m c main_v10 (ix2 a l) = (args m c).c a e := by
  rw [e2]
  exact pad_comb _ _ a l e h he

theorem p3 (e : Fin 32) (k : Fin 1024) (f : Fin 256) : V m c main_v1 (ix3 e k f) = (args m c).wg e k f := by
  rw [e3]
  exact cast_in _ e k f

theorem p4 (e : Fin 32) (k : Fin 1024) (f : Fin 256) : V m c main_v3 (ix3 e k f) = (args m c).wu e k f := by
  rw [e4]
  exact cast_in _ e k f

theorem p5 (e : Fin 32) (f : Fin 256) (d : Fin 1024) : V m c main_v5 (ix3 e f d) = (args m c).wd e f d := by
  rw [e5]
  exact cast_down _ e f d

theorem p6 (d : Fin 1024) : V m c main_v6 (ix2 0 d) = (args m c).g d := by
  rw [e6]
  exact vec_col _ d

/-! The blocks at a point. -/

theorem t_blk (t : Fin cfg0.N) (r k : Fin 1024) :
    iblk m c 0 t (ix2 r k) = (args m c).t (1024 * (t.val / 32) + r) k := by
  refine Eq.trans (congrArg (V m c main_v8) (b0 t r k)) ?_
  exact p0 m c _ k

theorem x_blk (t : Fin cfg0.N) (r k : Fin 1024) :
    iblk m c 1 t (ix2 r k) = (args m c).x (1024 * (t.val / 32) + r) k := by
  refine Eq.trans (congrArg (V m c main_v9) (b1 t r k)) ?_
  exact p1 m c _ k

theorem c_blk (t : Fin cfg0.N) (r : Fin 1024) (l : Fin 128) (h : l.val = t.val % 32) :
    iblk m c 2 t (ix2 r l) = (args m c).c (1024 * (t.val / 32) + r) (t.val % 32) := by
  refine Eq.trans (congrArg (V m c main_v10) (b2 t r l)) ?_
  exact p2 m c _ l _ h (Nat.mod_lt _ (by decide))

theorem g_blk (t : Fin cfg0.N) (k : Fin 1024) (f : Fin 256) :
    iblk m c 3 t (ix3 0 k f) = (args m c).wg (t.val % 32) k f := by
  refine Eq.trans (congrArg (V m c main_v1) (b3 t k f)) ?_
  exact p3 m c _ k f

theorem u_blk (t : Fin cfg0.N) (k : Fin 1024) (f : Fin 256) :
    iblk m c 4 t (ix3 0 k f) = (args m c).wu (t.val % 32) k f := by
  refine Eq.trans (congrArg (V m c main_v3) (b4 t k f)) ?_
  exact p4 m c _ k f

theorem d_blk (t : Fin cfg0.N) (f : Fin 256) (d : Fin 1024) :
    iblk m c 5 t (ix3 0 f d) = (args m c).wd (t.val % 32) f d := by
  refine Eq.trans (congrArg (V m c main_v5) (b5 t f d)) ?_
  exact p5 m c _ f d

theorem n_blk (t : Fin cfg0.N) (d : Fin 1024) : iblk m c 6 t (ix2 0 d) = (args m c).g d := by
  refine Eq.trans (congrArg (V m c main_v6) (b6 t d)) ?_
  exact p6 m c d

end Cert.MVal
-- ==== Proof.MVal.lean ====
/- What the prompt's dense mixture-of-experts launch leaves in its array: the function `y` of `MSpec` at the arguments. -/
module

public import proofs.«01_k».proof.Proof.MKer
public import proofs.«01_k».proof.Proof.MEnt
public import proofs.«01_k».proof.Proof.Gen.MoeIdeal.Value
public import Idealize.ShloMosaic.Lib.Pipeline.ReadBack
public import Idealize.ShloMosaic.Lib.Claim
public import Idealize.ShloMosaic.Lib.StableHlo.RunRead

@[expose] public section

set_option maxRecDepth 16384

noncomputable section

namespace Cert.MVal

open Idealize.ShloMosaic Idealize.ShloMosaic.TcCoe Idealize.SL.Sem
open Cert.MSpec Cert.MRef Cert.MKer Cert.MoeIdeal Cert.MoeIdeal.Gen

variable (m : (ℓ : Loc nD τ sig) → Buf (Elt Ideal) ℓ) (c : Dev nD)

/-- One expert's weighted output at a point, by the specification. -/
theorem pt (t : Fin cfg0.N) (a : Vec Ideal S1024x1024 .f32) (r d : Fin 1024) :
    k0_pay1 (k0_pay4 (iblk m c 0 t) (iblk m c 3 t) (iblk m c 4 t) (iblk m c 5 t))
      (k0_pay5 (grid0.coords t) (iblk m c 2 t)) a (ix2 r d)
      = a (ix2 r d) + MSpec.term (args m c) (1024 * (t.val / 32) + r) d (t.val % 32) := by
  rw [step_at, comb_at, c_blk m c t r _ (idx t).2.2.2.2.2.2.2.2,
    out_at (args m c) (1024 * (t.val / 32) + r) (t.val % 32) r _ _ _ _ (fun k => t_blk m c t r k)
      (fun k f => g_blk m c t k f) (fun k f => u_blk m c t k f) (fun f d => d_blk m c t f d)]
  rfl

/-- The accumulator after a point that opens a tile's run of experts. -/
theorem acc_A (t : Fin cfg0.N) (h0 : t.val % 32 = 0) (r d : Fin 1024) :
    (outsAt0 m c t.val t.isLt).2 (ix2 r d) = (args m c).x (1024 * (t.val / 32) + r) d
      + MSpec.term (args m c) (1024 * (t.val / 32) + r) d (t.val % 32) := by
  rw [outsAt0_A m c t h0 (by omega)]
  frame_out
  rw [pt, init_at, x_blk]

/-- The accumulator after any other point: the expert's weighted output is added to what the point before left. -/
theorem acc_B (t : Fin cfg0.N) (h0 : ¬t.val % 32 = 0) (r d : Fin 1024) :
    (outsAt0 m c t.val t.isLt).2 (ix2 r d)
      = (outsAt0 m c (t.val - 1) (Nat.lt_of_le_of_lt (Nat.sub_le _ _) t.isLt)).2 (ix2 r d)
      + MSpec.term (args m c) (1024 * (t.val / 32) + r) d (t.val % 32) := by
  by_cases h1 : t.val % 32 = 31
  · rw [outsAt0_C m c t h0 h1]
    frame_out
    rw [pt, read_unread_whole]
  · rw [outsAt0_B m c t h0 h1]
    frame_out
    rw [pt, read_unread_whole]

/-- The accumulator after a point: the input row and the weighted outputs of the experts so far. -/
theorem acc (r d : Fin 1024) (i : ℕ) (e : ℕ) : ∀ (he : e < 32) (h : 32 * i + e < cfg0.N),
    (outsAt0 m c (32 * i + e) h).2 (ix2 r d) = (args m c).x (1024 * i + r) d
      + ∑ j ∈ Finset.range (e + 1), MSpec.term (args m c) (1024 * i + r) d j := by
  induction e with
  | zero =>
    intro he h
    have q : (32 * i + 0) / 32 = i := by omega
    have q' : (32 * i + 0) % 32 = 0 := by omega
    have := acc_A m c ⟨32 * i + 0, h⟩ q' r d
    simp only [q, q'] at this
    rw [this]
    simp
  | succ e ih =>
    intro he h
    have q : (32 * i + (e + 1)) / 32 = i := by omega
    have q' : (32 * i + (e + 1)) % 32 = e + 1 := by omega
    have := acc_B m c ⟨32 * i + (e + 1), h⟩ (by simp only [q']; omega) r d
    simp only [q, q'] at this
    refine this.trans ?_
    rw [Finset.sum_range_succ _ (e + 1)]
    refine Eq.trans ?_ (add_assoc _ _ _)
    exact congrArg (· + _) (ih (by omega) (by omega))

theorem y_arr : (dats m 0 c).arrAt 7 cfg0.N = fun i => y (args m c) (i 0) (i 1) := by
  refine (dats m 0 c).arrAt_eq_of_covers 7 _ (by decide +kernel) fun t hf y => ?_
  have h31 : t.val % 32 = 31 := (Gen.flush0_7 t).1 hf
  blk_simp
  rw [after0_7]
  have hc : (outsAt0 m c t.val t.isLt).1 = k0_pay2 (outsAt0 m c t.val t.isLt).2 (iblk m c 6 t) := by
    rw [outsAt0_C m c t (by omega) h31]
    frame_out
  rw [hc]
  obtain ⟨r, d, rfl⟩ : ∃ (r d : Fin 1024), y = ix2 r d := ⟨y 0, y 1, eq_ix2 y⟩
  have hi := (idx t).2.2.2.2.2.2.2.1
  have ht : t.val = 32 * (t.val / 32) + 31 := by omega
  rw [y_at (args m c) (1024 * (t.val / 32) + r) r _ _ (fun d => ?_) (fun d => n_blk m c t d)]
  · rw [hi]
    show MSpec.y (args m c) (1024 * (t.val / 32) + r.val) d.val
      = MSpec.y (args m c) (t.val / 32 * 1024 + r.val) (0 * 1024 + d.val)
    rw [mul_comm, zero_mul, zero_add]
  · have hh : ∀ (n : ℕ) (hn : n < cfg0.N), n = 32 * (t.val / 32) + 31 → (outsAt0 m c n hn).2 (ix2 r d)
        = (args m c).x (1024 * (t.val / 32) + r) d
          + ∑ j ∈ Finset.range (31 + 1), MSpec.term (args m c) (1024 * (t.val / 32) + r) d j := by
      intro n hn e
      subst e
      exact acc m c r d (t.val / 32) 31 (by decide) hn
    rw [hh t.val t.isLt ht, Finset.sum_range]
    rfl

end Cert.MVal
-- ==== Proof.MPair.lean ====
/- The prompt's expert launch and its reference end holding the same array. -/
module

public import proofs.«01_k».proof.Defs
public import proofs.«01_k».proof.Proof.Gen.MoeIdeal
public import proofs.«01_k».proof.Proof.Gen.MoeReferenceIdeal
public import proofs.«01_k».proof.Proof.MVal
public import Idealize.ShloMosaic.Adequacy
public import Idealize.ShloMosaic.Init

@[expose] public section

noncomputable section

namespace Cert.Proof

open Idealize.ShloMosaic Idealize.ShloMosaic.TcCoe Idealize.SL.Sem

/-- The two result arrays at core `c`. -/
theorem moe_arr (m : (ℓ : Loc Cert.MoeIdeal.nD Cert.MoeIdeal.τ Cert.MoeIdeal.sig) → Buf (Elt Ideal) ℓ) (c : Dev Cert.MoeIdeal.nD)
    (m' : (ℓ : Loc Cert.MoeReferenceIdeal.nD Cert.MoeReferenceIdeal.τ Cert.MoeReferenceIdeal.sig) → Buf (Elt Ideal) ℓ)
    (h0 : m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0))
    (h1 : m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1))
    (h2 : m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2))
    (h3 : m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3))
    (h4 : m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4))
    (h5 : m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5))
    (h6 : m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)) :
    Cert.MoeReferenceIdeal.Value.res_main_v30 m' c = (Cert.MoeIdeal.Gen.dats m 0 c).arrAt 7 Cert.MoeIdeal.cfg0.N := by
  rw [Cert.MVal.y_arr m c, Cert.MoeReferenceIdeal.Read.val_main_v30_eq, h0, h1, h2, h3, h4, h5, h6]
  funext i
  refine (congrArg _ (eq_ix2 i)).trans ?_
  unfold Cert.MVal.args
  exact Cert.MRef.r30 _ _ _ _ _ _ _ (i 0) (i 1)

/-- The prompt's launch ends holding what its reference computes. -/
theorem moe_value : letI := Cert.MoeIdeal.Gen.facts; letI := Cert.MoeReferenceIdeal.Gen.facts
    Cert.algebraic_MoeIdeal_MoeReferenceIdeal := by
  intro m g m' g' hpre hagree
  refine ⟨fun c => (Cert.MoeIdeal.Gen.dats m 0 c).arrAt 7 Cert.MoeIdeal.cfg0.N, Cert.MoeIdeal.Value.run_blocks m g,
    (θ_run _ _ _).mono (fun r h c => ⟨(h c).1.trans ?_, (h c).2⟩) (Cert.MoeReferenceIdeal.Value.run m' g')⟩
  obtain ⟨h0, h1, h2, h3, h4, h5, h6⟩ := hagree c
  exact moe_arr m c m' h0 h1 h2 h3 h4 h5 h6

end Cert.Proof

end
-- ==== Proof.TKer.lean ====
/- The kernel's stages, read at an index, are the functions of `MSpec`. -/
module

public import proofs.«01_k».proof.Proof.MSpec
public import proofs.«01_k».proof.Proof.Gen.MoeSIdeal.Skeleton
public import Idealize.ShloMosaic.Lib.WordCmp

@[expose] public section

set_option maxRecDepth 16384

noncomputable section

namespace Cert.TKer

open Idealize.ShloMosaic Idealize.ShloMosaic.TcCoe Idealize.SL.Sem
open Cert.MSpec Cert.MoeSIdeal Cert.MoeSIdeal.Gen

/-- The lane test: lane `l` is expert `e`'s. -/
theorem lane_eq (l : Fin 128) (e : Fin 32) :
    IntOp.cmpi .eq (BitVec.ofNat 32 l) (BitVec.ofNat 32 e) = BitVec.ofBool (decide ((l : ℕ) = e)) := by
  revert l e
  decide +kernel

theorem sel {α : Type} (p : Prop) [Decidable p] (x y : α) :
    Scalar.select (BitVec.ofBool (decide p)) x y = if p then x else y := by
  by_cases h : p <;> simp [h, Scalar.select]

theorem out_at (I : In) (n : ℕ) (e : ℕ) (r : Fin 128) (t : Vec Ideal S128x1024 .bf16)
    (a u : Vec Ideal S1x1024x256 .bf16) (w : Vec Ideal S1x256x1024 .bf16)
    (ht : ∀ k : Fin 1024, t (ix2 r k) = I.t n k) (ha : ∀ (k : Fin 1024) (f : Fin 256), a (ix3 0 k f) = I.wg e k f)
    (hu : ∀ (k : Fin 1024) (f : Fin 256), u (ix3 0 k f) = I.wu e k f)
    (hw : ∀ (f : Fin 256) (d : Fin 1024), w (ix3 0 f d) = I.wd e f d) (d : Fin 1024) :
    k0_pay4 t a u w (ix2 r d) = out I e n d := by
  pointwise [k0_pay4]
  simp only [ht, ha, hu, hw, zero_sub]
  rfl

theorem comb_at (i : grid0.Coords) (v : Vec Ideal S128x128 .f32) (r : Fin 128) :
    k0_pay5 i v (ix2 r 0) = v (ix2 r ⟨(i 1).val, lt_trans (i 1).isLt (by decide)⟩) := by
  pointwise [k0_pay5]
  have h : ∀ x : Fin 128, IntOp.cmpi .eq (BitVec.ofNat 32 x) (BitVec.ofNat 32 (i 1))
      = BitVec.ofBool (decide (x = (⟨(i 1).val, lt_trans (i 1).isLt (by decide)⟩ : Fin 128))) := fun x => by
    rw [lane_eq x (i 1)]
    simp only [Fin.ext_iff]
  simp only [h, sel]
  exact (Finset.sum_ite_eq' _ _ _).trans (if_pos (Finset.mem_univ _))

theorem step_at (o : FVec Ideal S128x1024 .f32) (s : FVec Ideal S128x1 .f32) (a : Vec Ideal S128x1024 .f32)
    (r : Fin 128) (d : Fin 1024) : k0_pay1 o s a (ix2 r d) = a (ix2 r d) + s (ix2 r 0) * o (ix2 r d) := by
  pointwise [k0_pay1]

theorem init_at (a : Vec Ideal S128x1024 .f32) : k0_pay3 a = a := by
  funext i
  rw [eq_ix2 i]
  pointwise [k0_pay3]

theorem y_at (I : In) (n : ℕ) (r : Fin 128) (a : Vec Ideal S128x1024 .f32) (g : Vec Ideal S1x1024 .f32)
    (ha : ∀ d : Fin 1024, a (ix2 r d) = total I n d) (hg : ∀ d : Fin 1024, g (ix2 0 d) = I.g d) (d : Fin 1024) :
    k0_pay2 a g (ix2 r d) = y I n d := by
  pointwise [k0_pay2]
  simp only [ha, hg]
  rfl

end Cert.TKer
-- ==== Proof.TRef.lean ====
/- The reference's stages, read at an index, are the functions of `MSpec`. -/
module

public import proofs.«01_k».proof.Proof.MSpec
public import proofs.«01_k».proof.Proof.Gen.MoeSReferenceIdeal.Read

@[expose] public section

set_option maxRecDepth 16384

noncomputable section

namespace Cert.TRef

open Idealize.ShloMosaic Idealize.ShloMosaic.TcCoe Idealize.SL.Sem
open Cert.MSpec Cert.MoeSReferenceIdeal Cert.MoeSReferenceIdeal.Read

/-- The argument arrays read as functions of the token, the expert and the column. -/
def inp (x0 x1 : FVec Ideal ⟨3, ![128, 1, 1024]⟩ .f32) (x2 : FVec Ideal ⟨2, ![128, 32]⟩ .f32)
    (x3 x4 : FVec Ideal ⟨4, ![1, 32, 1024, 256]⟩ .f32) (x5 : FVec Ideal ⟨4, ![1, 32, 256, 1024]⟩ .f32)
    (x6 : FVec Ideal ⟨1, ![1024]⟩ .f32) : In where
  t n k := x0 (ix3 (Fin.ofNat 128 n) 0 (Fin.ofNat 1024 k))
  x n k := x1 (ix3 (Fin.ofNat 128 n) 0 (Fin.ofNat 1024 k))
  c n e := x2 (ix2 (Fin.ofNat 128 n) (Fin.ofNat 32 e))
  wg e k f := x3 (ix4 0 (Fin.ofNat 32 e) (Fin.ofNat 1024 k) (Fin.ofNat 256 f))
  wu e k f := x4 (ix4 0 (Fin.ofNat 32 e) (Fin.ofNat 1024 k) (Fin.ofNat 256 f))
  wd e f d := x5 (ix4 0 (Fin.ofNat 32 e) (Fin.ofNat 256 f) (Fin.ofNat 1024 d))
  g d := x6 (ix1 (Fin.ofNat 1024 d))

variable (x0 x1 : FVec Ideal ⟨3, ![128, 1, 1024]⟩ .f32) (x2 : FVec Ideal ⟨2, ![128, 32]⟩ .f32)
    (x3 x4 : FVec Ideal ⟨4, ![1, 32, 1024, 256]⟩ .f32) (x5 : FVec Ideal ⟨4, ![1, 32, 256, 1024]⟩ .f32)
    (x6 : FVec Ideal ⟨1, ![1024]⟩ .f32)

theorem r0 (n : Fin 128) (k : Fin 1024) : val_main_v0 (F := Ideal) x0 (ix2 n k) = (inp x0 x1 x2 x3 x4 x5 x6).t n k := by
  pointwise [val_main_v0]
  unfold inp
  refine congrArg x0 ?_
  blk_ext! <;> simp only [Fin.val_ofNat] <;> omega

theorem r16 (n : Fin 128) (k : Fin 1024) : val_main_v16 (F := Ideal) x1 (ix2 n k) = (inp x0 x1 x2 x3 x4 x5 x6).x n k := by
  pointwise [val_main_v16]
  unfold inp
  refine congrArg x1 ?_
  blk_ext! <;> simp only [Fin.val_ofNat] <;> omega

theorem r1 (e : Fin 32) (k : Fin 1024) (f : Fin 256) : val_main_v1 (F := Ideal) x3 (ix3 e k f) = (inp x0 x1 x2 x3 x4 x5 x6).wg e k f := by
  pointwise [val_main_v1]
  unfold inp
  refine congrArg x3 ?_
  blk_ext! <;> simp only [Fin.val_ofNat] <;> omega

theorem r4 (e : Fin 32) (k : Fin 1024) (f : Fin 256) : val_main_v4 (F := Ideal) x4 (ix3 e k f) = (inp x0 x1 x2 x3 x4 x5 x6).wu e k f := by
  pointwise [val_main_v4]
  unfold inp
  refine congrArg x4 ?_
  blk_ext! <;> simp only [Fin.val_ofNat] <;> omega

theorem r9 (e : Fin 32) (f : Fin 256) (d : Fin 1024) : val_main_v9 (F := Ideal) x5 (ix3 e f d) = (inp x0 x1 x2 x3 x4 x5 x6).wd e f d := by
  pointwise [val_main_v9]
  unfold inp
  refine congrArg x5 ?_
  blk_ext! <;> simp only [Fin.val_ofNat] <;> omega

theorem r3 (e : Fin 32) (n : Fin 128) (f : Fin 256) :
    val_main_v3 (F := Ideal) x0 x3 (ix3 e n f) = gate (inp x0 x1 x2 x3 x4 x5 x6) e n f := by
  pointwise [val_main_v3, val_main_v2]
  simp only [r0 x0 x1 x2 x3 x4 x5 x6, r1 x0 x1 x2 x3 x4 x5 x6]
  exact Finset.sum_congr rfl fun k _ => mul_comm _ _

theorem r6 (e : Fin 32) (n : Fin 128) (f : Fin 256) :
    val_main_v6 (F := Ideal) x0 x4 (ix3 e n f) = up (inp x0 x1 x2 x3 x4 x5 x6) e n f := by
  pointwise [val_main_v6, val_main_v5]
  simp only [r0 x0 x1 x2 x3 x4 x5 x6, r4 x0 x1 x2 x3 x4 x5 x6]
  exact Finset.sum_congr rfl fun k _ => mul_comm _ _

theorem r8 (e : Fin 32) (n : Fin 128) (f : Fin 256) :
    val_main_v8 (F := Ideal) x0 x3 x4 (ix3 e n f) = silu (gate (inp x0 x1 x2 x3 x4 x5 x6) e n f) * up (inp x0 x1 x2 x3 x4 x5 x6) e n f := by
  pointwise [val_main_v8, val_main_v7, val_main_call0_v5, val_main_call0_v4, val_main_call0_cst_0, val_main_call0_v3,
    val_main_call0_v2, val_main_call0_cst, val_main_call0_v1, val_main_call0_v0]
  simp only [r3 x0 x1 x2 x3 x4 x5 x6, r6 x0 x1 x2 x3 x4 x5 x6]
  rfl

theorem r10 (e : Fin 32) (n : Fin 128) (d : Fin 1024) :
    val_main_v10 (F := Ideal) x0 x3 x4 x5 (ix3 e n d) = out (inp x0 x1 x2 x3 x4 x5 x6) e n d := by
  pointwise [val_main_v10]
  simp only [r8 x0 x1 x2 x3 x4 x5 x6, r9 x0 x1 x2 x3 x4 x5 x6]
  rfl

theorem r2 (n : Fin 128) (e : Fin 32) : x2 (ix2 n e) = (inp x0 x1 x2 x3 x4 x5 x6).c n e := by
  unfold inp
  refine congrArg x2 ?_
  blk_ext! <;> simp only [Fin.val_ofNat] <;> omega

theorem r6g (d : Fin 1024) : x6 (ix1 d) = (inp x0 x1 x2 x3 x4 x5 x6).g d := by
  unfold inp
  refine congrArg x6 ?_
  blk_ext! <;> simp only [Fin.val_ofNat] <;> omega

theorem r17 (n : Fin 128) (d : Fin 1024) :
    val_main_v17 (F := Ideal) x0 x1 x2 x3 x4 x5 (ix2 n d) = total (inp x0 x1 x2 x3 x4 x5 x6) n d := by
  pointwise [val_main_v17, val_main_v15, val_main_v14, val_main_v13, val_main_v12, val_main_v11, val_main_cst]
  simp only [r10 x0 x1 x2 x3 x4 x5 x6, r16 x0 x1 x2 x3 x4 x5 x6, r2 x0 x1 x2 x3 x4 x5 x6]
  rfl

theorem r30 (n : Fin 128) (d : Fin 1024) :
    val_main_v30 (F := Ideal) x0 x1 x2 x3 x4 x5 x6 (ix2 n d) = y (inp x0 x1 x2 x3 x4 x5 x6) n d := by
  pointwise [val_main_v30, val_main_v29, val_main_v28, val_main_v27, val_main_v26, val_main_v25, val_main_v24,
    val_main_v23, val_main_v22, val_main_v21, val_main_v20, val_main_v19, val_main_v18, val_main_cst_0, val_main_cst_1,
    val_main_cst_2]
  simp only [r17 x0 x1 x2 x3 x4 x5 x6, r6g x0 x1 x2 x3 x4 x5 x6]
  rfl

end Cert.TRef
-- ==== Proof.TEnt.lean ====
/- The blocks of the sample's dense mixture-of-experts launch, over the arguments. -/
module

public import proofs.«01_k».proof.Proof.TKer
public import proofs.«01_k».proof.Proof.TRef
public import proofs.«01_k».proof.Proof.Gen.MoeSIdeal.Value
public import Idealize.ShloMosaic.Lib.Pipeline.ReadBack
public import Idealize.ShloMosaic.Lib.Claim
public import Idealize.ShloMosaic.Lib.StableHlo.RunRead

@[expose] public section

set_option maxRecDepth 16384

noncomputable section

namespace Cert.TVal

open Idealize.ShloMosaic Idealize.ShloMosaic.TcCoe Idealize.SL.Sem
open Cert.MSpec Cert.TRef Cert.TKer Cert.MoeSIdeal Cert.MoeSIdeal.Gen

variable (m : (ℓ : Loc nD τ sig) → Buf (Elt Ideal) ℓ) (c : Dev nD)

/-- The arguments of core `c`. -/
def args : In := inp (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

/-! The arrays that the region finds, over the arguments. -/

theorem e0 : V m c main_v8 = (truncf .bf16 (shapeCast S128x1024 (m ((c : Thread nD τ).loc main_arg0)) shapeCasts_S128x1x1024_S128x1024 : FVec Ideal S128x1024 .f32) bitsLt_bf16_f32 : FVec Ideal S128x1024 .bf16) := by
  simp only [V, hostOps0, hostOps0_1, List.flatten_cons, List.flatten_nil, List.append_nil, List.cons_append, List.nil_append]
  after_reads_simp
  rfl

theorem e1 : V m c main_v9 = shapeCast S128x1024 (m ((c : Thread nD τ).loc main_arg1)) shapeCasts_S128x1x1024_S128x1024 := by
  simp only [V, hostOps0, hostOps0_1, List.flatten_cons, List.flatten_nil, List.append_nil, List.cons_append, List.nil_append]
  after_reads_simp
  rfl

theorem e2 : V m c main_v10 = pad S128x128 ![0, 0] ![0, 96] ![0, 0] (m ((c : Thread nD τ).loc main_arg2) : FVec Ideal S128x32 .f32) (sitofp .f32 (constantI S_ 32 0#32) : FVec Ideal S_ .f32) pads_S128x32_S128x128_000_0960 h_S_ := by
  simp only [V, hostOps0, hostOps0_1, List.flatten_cons, List.flatten_nil, List.append_nil, List.cons_append, List.nil_append]
  after_reads_simp
  rfl

theorem e3 : V m c main_v1 = (truncf .bf16 (shapeCast S32x1024x256 (m ((c : Thread nD τ).loc main_arg3)) shapeCasts_S1x32x1024x256_S32x1024x256 : FVec Ideal S32x1024x256 .f32) bitsLt_bf16_f32 : FVec Ideal S32x1024x256 .bf16) := by
  simp only [V, hostOps0, hostOps0_1, List.flatten_cons, List.flatten_nil, List.append_nil, List.cons_append, List.nil_append]
  after_reads_simp
  rfl

theorem e4 : V m c main_v3 = (truncf .bf16 (shapeCast S32x1024x256 (m ((c : Thread nD τ).loc main_arg4)) shapeCasts_S1x32x1024x256_S32x1024x256 : FVec Ideal S32x1024x256 .f32) bitsLt_bf16_f32 : FVec Ideal S32x1024x256 .bf16) := by
  simp only [V, hostOps0, hostOps0_1, List.flatten_cons, List.flatten_nil, List.append_nil, List.cons_append, List.nil_append]
  after_reads_simp
  rfl

theorem e5 : V m c main_v5 = (truncf .bf16 (shapeCast S32x256x1024 (m ((c : Thread nD τ).loc main_arg5)) shapeCasts_S1x32x256x1024_S32x256x1024 : FVec Ideal S32x256x1024 .f32) bitsLt_bf16_f32 : FVec Ideal S32x256x1024 .bf16) := by
  simp only [V, hostOps0, hostOps0_1, List.flatten_cons, List.flatten_nil, List.append_nil, List.cons_append, List.nil_append]
  after_reads_simp
  rfl

theorem e6 : V m c main_v6 = broadcastInDim S1x1024 ![1] bcast_S1024_S1x1024_1 (m ((c : Thread nD τ).loc main_arg6)) := by
  simp only [V, hostOps0, hostOps0_1, List.flatten_cons, List.flatten_nil, List.append_nil, List.cons_append, List.nil_append]
  after_reads_simp

theorem lt (t : Fin cfg0.N) : t.val < 32 := N_0 ▸ t.isLt

/-- The block indices of the windows that are read. -/
theorem idx : ∀ t : Fin cfg0.N, win0_0.index t = ![t.val / 32, 0] ∧ win0_1.index t = ![t.val / 32, 0]
    ∧ win0_2.index t = ![t.val / 32, 0] ∧ win0_3.index t = ![t.val % 32, 0, 0] ∧ win0_4.index t = ![t.val % 32, 0, 0]
    ∧ win0_5.index t = ![t.val % 32, 0, 0] ∧ win0_6.index t = ![0, 0] ∧ win0_7.index t = ![t.val / 32, 0]
    ∧ (grid0.coords t 1).val = t.val % 32 :=
  (by decide +kernel : ∀ t : Fin grid0.N, _)

theorem b0 (t : Fin cfg0.N) (r : Fin 128) (k : Fin 1024) : (win0_0.blk t).view.emb (ix2 r k)
    = (ix2 (⟨128 * (t.val / 32) + r.val, by have := lt t; omega⟩ : Fin 128) k : S128x1024.Idx) := by
  have h := (idx t).1
  blk_ext! <;> rw [h] <;> simp <;> omega

theorem b1 (t : Fin cfg0.N) (r : Fin 128) (k : Fin 1024) : (win0_1.blk t).view.emb (ix2 r k)
    = (ix2 (⟨128 * (t.val / 32) + r.val, by have := lt t; omega⟩ : Fin 128) k : S128x1024.Idx) := by
  have h := (idx t).2.1
  blk_ext! <;> rw [h] <;> simp <;> omega

theorem b2 (t : Fin cfg0.N) (r : Fin 128) (l : Fin 128) : (win0_2.blk t).view.emb (ix2 r l)
    = (ix2 (⟨128 * (t.val / 32) + r.val, by have := lt t; omega⟩ : Fin 128) l : S128x128.Idx) := by
  have h := (idx t).2.2.1
  blk_ext! <;> rw [h] <;> simp <;> omega

theorem b3 (t : Fin cfg0.N) (k : Fin 1024) (f : Fin 256) : (win0_3.blk t).view.emb (ix3 0 k f)
    = (ix3 (⟨t.val % 32, by omega⟩ : Fin 32) k f : S32x1024x256.Idx) := by
  have h := (idx t).2.2.2.1
  blk_ext! <;> rw [h] <;> simp <;> omega

theorem b4 (t : Fin cfg0.N) (k : Fin 1024) (f : Fin 256) : (win0_4.blk t).view.emb (ix3 0 k f)
    = (ix3 (⟨t.val % 32, by omega⟩ : Fin 32) k f : S32x1024x256.Idx) := by
  have h := (idx t).2.2.2.2.1
  blk_ext! <;> rw [h] <;> simp <;> omega

theorem b5 (t : Fin cfg0.N) (f : Fin 256) (d : Fin 1024) : (win0_5.blk t).view.emb (ix3 0 f d)
    = (ix3 (⟨t.val % 32, by omega⟩ : Fin 32) f d : S32x256x1024.Idx) := by
  have h := (idx t).2.2.2.2.2.1
  blk_ext! <;> rw [h] <;> simp <;> omega

theorem b6 (t : Fin cfg0.N) (k : Fin 1024) : (win0_6.blk t).view.emb (ix2 0 k)
    = (ix2 0 k : S1x1024.Idx) := by
  have h := (idx t).2.2.2.2.2.2.1
  blk_ext! <;> rw [h] <;> simp <;> omega

theorem cast_tok (x : FVec Ideal S128x1x1024 .f32) (a : Fin 128) (k : Fin 1024) :
    shapeCast S128x1024 x shapeCasts_S128x1x1024_S128x1024 (ix2 a k)
      = x (ix3 (Fin.ofNat 128 a.val) 0 (Fin.ofNat 1024 k.val)) := by
  pointwise []
  refine congrArg x ?_
  blk_ext! <;> simp only [Fin.val_ofNat] <;> omega

theorem cast_in (x : FVec Ideal S1x32x1024x256 .f32) (e : Fin 32) (k : Fin 1024) (f : Fin 256) :
    shapeCast S32x1024x256 x shapeCasts_S1x32x1024x256_S32x1024x256 (ix3 e k f)
      = x (ix4 0 (Fin.ofNat 32 e.val) (Fin.ofNat 1024 k.val) (Fin.ofNat 256 f.val)) := by
  pointwise []
  refine congrArg x ?_
  blk_ext! <;> simp only [Fin.val_ofNat] <;> omega

theorem cast_down (x : FVec Ideal S1x32x256x1024 .f32) (e : Fin 32) (f : Fin 256) (d : Fin 1024) :
    shapeCast S32x256x1024 x shapeCasts_S1x32x256x1024_S32x256x1024 (ix3 e f d)
      = x (ix4 0 (Fin.ofNat 32 e.val) (Fin.ofNat 256 f.val) (Fin.ofNat 1024 d.val)) := by
  pointwise []
  refine congrArg x ?_
  blk_ext! <;> simp only [Fin.val_ofNat] <;> omega

theorem pad_comb (x : FVec Ideal S128x32 .f32) (v : FVec Ideal S_ .f32) (a : Fin 128) (l : Fin 128) (e : ℕ)
    (h : l.val = e) (he : e < 32) :
    pad S128x128 ![0, 0] ![0, 96] ![0, 0] x v pads_S128x32_S128x128_000_0960 h_S_ (ix2 a l)
      = x (ix2 (Fin.ofNat 128 a.val) (Fin.ofNat 32 e)) := by
  pointwise []
  rw [dif_pos]
  · refine congrArg x ?_
    blk_ext! <;> simp only [Fin.val_ofNat] <;> omega
  · omega

theorem vec_col (x : FVec Ideal S1024 .f32) (d : Fin 1024) :
    broadcastInDim S1x1024 ![1] bcast_S1024_S1x1024_1 x (ix2 0 d) = x (ix1 (Fin.ofNat 1024 d.val)) := by
  pointwise []
  refine congrArg x ?_
  blk_ext! <;> simp only [Fin.val_ofNat] <;> omega

theorem p0 (a : Fin 128) (k : Fin 1024) : V m c main_v8 (ix2 a k) = (args m c).t a k := by
  rw [e0]
  exact cast_tok _ a k

theorem p1 (a : Fin 128) (k : Fin 1024) : V m c main_v9 (ix2 a k) = (args m c).x a k := by
  rw [e1]
  exact cast_tok _ a k

theorem p2 (a : Fin 128) (l : Fin 128) (e : ℕ) (h : l.val = e) (he : e < 32) : V m c main_v10 (ix2 a l) = (args m c).c a e := by
  rw [e2]
  exact pad_comb _ _ a l e h he

theorem p3 (e : Fin 32) (k : Fin 1024) (f : Fin 256) : V m c main_v1 (ix3 e k f) = (args m c).wg e k f := by
  rw [e3]
  exact cast_in _ e k f

theorem p4 (e : Fin 32) (k : Fin 1024) (f : Fin 256) : V m c main_v3 (ix3 e k f) = (args m c).wu e k f := by
  rw [e4]
  exact cast_in _ e k f

theorem p5 (e : Fin 32) (f : Fin 256) (d : Fin 1024) : V m c main_v5 (ix3 e f d) = (args m c).wd e f d := by
  rw [e5]
  exact cast_down _ e f d

theorem p6 (d : Fin 1024) : V m c main_v6 (ix2 0 d) = (args m c).g d := by
  rw [e6]
  exact vec_col _ d

/-! The blocks at a point. -/

theorem t_blk (t : Fin cfg0.N) (r : Fin 128) (k : Fin 1024) :
    iblk m c 0 t (ix2 r k) = (args m c).t (128 * (t.val / 32) + r) k := by
  refine Eq.trans (congrArg (V m c main_v8) (b0 t r k)) ?_
  exact p0 m c _ k

theorem x_blk (t : Fin cfg0.N) (r : Fin 128) (k : Fin 1024) :
    iblk m c 1 t (ix2 r k) = (args m c).x (128 * (t.val / 32) + r) k := by
  refine Eq.trans (congrArg (V m c main_v9) (b1 t r k)) ?_
  exact p1 m c _ k

theorem c_blk (t : Fin cfg0.N) (r : Fin 128) (l : Fin 128) (h : l.val = t.val % 32) :
    iblk m c 2 t (ix2 r l) = (args m c).c (128 * (t.val / 32) + r) (t.val % 32) := by
  refine Eq.trans (congrArg (V m c main_v10) (b2 t r l)) ?_
  exact p2 m c _ l _ h (Nat.mod_lt _ (by decide))

theorem g_blk (t : Fin cfg0.N) (k : Fin 1024) (f : Fin 256) :
    iblk m c 3 t (ix3 0 k f) = (args m c).wg (t.val % 32) k f := by
  refine Eq.trans (congrArg (V m c main_v1) (b3 t k f)) ?_
  exact p3 m c _ k f

theorem u_blk (t : Fin cfg0.N) (k : Fin 1024) (f : Fin 256) :
    iblk m c 4 t (ix3 0 k f) = (args m c).wu (t.val % 32) k f := by
  refine Eq.trans (congrArg (V m c main_v3) (b4 t k f)) ?_
  exact p4 m c _ k f

theorem d_blk (t : Fin cfg0.N) (f : Fin 256) (d : Fin 1024) :
    iblk m c 5 t (ix3 0 f d) = (args m c).wd (t.val % 32) f d := by
  refine Eq.trans (congrArg (V m c main_v5) (b5 t f d)) ?_
  exact p5 m c _ f d

theorem n_blk (t : Fin cfg0.N) (d : Fin 1024) : iblk m c 6 t (ix2 0 d) = (args m c).g d := by
  refine Eq.trans (congrArg (V m c main_v6) (b6 t d)) ?_
  exact p6 m c d

end Cert.TVal
-- ==== Proof.TVal.lean ====
/- What the sample's dense mixture-of-experts launch leaves in its array: the function `y` of `MSpec` at the arguments. -/
module

public import proofs.«01_k».proof.Proof.TKer
public import proofs.«01_k».proof.Proof.TEnt
public import proofs.«01_k».proof.Proof.Gen.MoeSIdeal.Value
public import Idealize.ShloMosaic.Lib.Pipeline.ReadBack
public import Idealize.ShloMosaic.Lib.Claim
public import Idealize.ShloMosaic.Lib.StableHlo.RunRead

@[expose] public section

set_option maxRecDepth 16384

noncomputable section

namespace Cert.TVal

open Idealize.ShloMosaic Idealize.ShloMosaic.TcCoe Idealize.SL.Sem
open Cert.MSpec Cert.TRef Cert.TKer Cert.MoeSIdeal Cert.MoeSIdeal.Gen

variable (m : (ℓ : Loc nD τ sig) → Buf (Elt Ideal) ℓ) (c : Dev nD)

/-- One expert's weighted output at a point, by the specification. -/
theorem pt (t : Fin cfg0.N) (a : Vec Ideal S128x1024 .f32) (r : Fin 128) (d : Fin 1024) :
    k0_pay1 (k0_pay4 (iblk m c 0 t) (iblk m c 3 t) (iblk m c 4 t) (iblk m c 5 t))
      (k0_pay5 (grid0.coords t) (iblk m c 2 t)) a (ix2 r d)
      = a (ix2 r d) + MSpec.term (args m c) (128 * (t.val / 32) + r) d (t.val % 32) := by
  rw [step_at, comb_at, c_blk m c t r _ (idx t).2.2.2.2.2.2.2.2,
    out_at (args m c) (128 * (t.val / 32) + r) (t.val % 32) r _ _ _ _ (fun k => t_blk m c t r k)
      (fun k f => g_blk m c t k f) (fun k f => u_blk m c t k f) (fun f d => d_blk m c t f d)]
  rfl

/-- The accumulator after a point that opens a tile's run of experts. -/
theorem acc_A (t : Fin cfg0.N) (h0 : t.val % 32 = 0) (r : Fin 128) (d : Fin 1024) :
    (outsAt0 m c t.val t.isLt).2 (ix2 r d) = (args m c).x (128 * (t.val / 32) + r) d
      + MSpec.term (args m c) (128 * (t.val / 32) + r) d (t.val % 32) := by
  rw [outsAt0_A m c t h0 (by omega)]
  frame_out
  rw [pt, init_at, x_blk]

/-- The accumulator after any other point: the expert's weighted output is added to what the point before left. -/
theorem acc_B (t : Fin cfg0.N) (h0 : ¬t.val % 32 = 0) (r : Fin 128) (d : Fin 1024) :
    (outsAt0 m c t.val t.isLt).2 (ix2 r d)
      = (outsAt0 m c (t.val - 1) (Nat.lt_of_le_of_lt (Nat.sub_le _ _) t.isLt)).2 (ix2 r d)
      + MSpec.term (args m c) (128 * (t.val / 32) + r) d (t.val % 32) := by
  by_cases h1 : t.val % 32 = 31
  · rw [outsAt0_C m c t h0 h1]
    frame_out
    rw [pt, read_unread_whole]
  · rw [outsAt0_B m c t h0 h1]
    frame_out
    rw [pt, read_unread_whole]

/-- The accumulator after a point: the input row and the weighted outputs of the experts so far. -/
theorem acc (r : Fin 128) (d : Fin 1024) (i : ℕ) (e : ℕ) : ∀ (he : e < 32) (h : 32 * i + e < cfg0.N),
    (outsAt0 m c (32 * i + e) h).2 (ix2 r d) = (args m c).x (128 * i + r) d
      + ∑ j ∈ Finset.range (e + 1), MSpec.term (args m c) (128 * i + r) d j := by
  induction e with
  | zero =>
    intro he h
    have q : (32 * i + 0) / 32 = i := by omega
    have q' : (32 * i + 0) % 32 = 0 := by omega
    have := acc_A m c ⟨32 * i + 0, h⟩ q' r d
    simp only [q, q'] at this
    rw [this]
    simp
  | succ e ih =>
    intro he h
    have q : (32 * i + (e + 1)) / 32 = i := by omega
    have q' : (32 * i + (e + 1)) % 32 = e + 1 := by omega
    have := acc_B m c ⟨32 * i + (e + 1), h⟩ (by simp only [q']; omega) r d
    simp only [q, q'] at this
    refine this.trans ?_
    rw [Finset.sum_range_succ _ (e + 1)]
    refine Eq.trans ?_ (add_assoc _ _ _)
    exact congrArg (· + _) (ih (by omega) (by omega))

theorem y_arr : (dats m 0 c).arrAt 7 cfg0.N = fun i => y (args m c) (i 0) (i 1) := by
  refine (dats m 0 c).arrAt_eq_of_covers 7 _ (by decide +kernel) fun t hf y => ?_
  have h31 : t.val % 32 = 31 := (Gen.flush0_7 t).1 hf
  blk_simp
  rw [after0_7]
  have hc : (outsAt0 m c t.val t.isLt).1 = k0_pay2 (outsAt0 m c t.val t.isLt).2 (iblk m c 6 t) := by
    rw [outsAt0_C m c t (by omega) h31]
    frame_out
  rw [hc]
  obtain ⟨r, d, rfl⟩ : ∃ (r : Fin 128) (d : Fin 1024), y = ix2 r d := ⟨y 0, y 1, eq_ix2 y⟩
  have hi := (idx t).2.2.2.2.2.2.2.1
  have ht : t.val = 32 * (t.val / 32) + 31 := by omega
  rw [y_at (args m c) (128 * (t.val / 32) + r) r _ _ (fun d => ?_) (fun d => n_blk m c t d)]
  · rw [hi]
    show MSpec.y (args m c) (128 * (t.val / 32) + r.val) d.val
      = MSpec.y (args m c) (t.val / 32 * 128 + r.val) (0 * 1024 + d.val)
    rw [mul_comm, zero_mul, zero_add]
  · have hh : ∀ (n : ℕ) (hn : n < cfg0.N), n = 32 * (t.val / 32) + 31 → (outsAt0 m c n hn).2 (ix2 r d)
        = (args m c).x (128 * (t.val / 32) + r) d
          + ∑ j ∈ Finset.range (31 + 1), MSpec.term (args m c) (128 * (t.val / 32) + r) d j := by
      intro n hn e
      subst e
      exact acc m c r d (t.val / 32) 31 (by decide) hn
    rw [hh t.val t.isLt ht, Finset.sum_range]
    rfl

end Cert.TVal
-- ==== Proof.TPair.lean ====
/- The sample's expert launch and its reference end holding the same array. -/
module

public import proofs.«01_k».proof.Defs
public import proofs.«01_k».proof.Proof.Gen.MoeSIdeal
public import proofs.«01_k».proof.Proof.Gen.MoeSReferenceIdeal
public import proofs.«01_k».proof.Proof.TVal
public import Idealize.ShloMosaic.Adequacy
public import Idealize.ShloMosaic.Init

@[expose] public section

noncomputable section

namespace Cert.Proof

open Idealize.ShloMosaic Idealize.ShloMosaic.TcCoe Idealize.SL.Sem

/-- The two result arrays at core `c`. -/
theorem moe_s_arr (m : (ℓ : Loc Cert.MoeSIdeal.nD Cert.MoeSIdeal.τ Cert.MoeSIdeal.sig) → Buf (Elt Ideal) ℓ) (c : Dev Cert.MoeSIdeal.nD)
    (m' : (ℓ : Loc Cert.MoeSReferenceIdeal.nD Cert.MoeSReferenceIdeal.τ Cert.MoeSReferenceIdeal.sig) → Buf (Elt Ideal) ℓ)
    (h0 : m' ((c.tc : Thread Cert.MoeSReferenceIdeal.nD Cert.MoeSReferenceIdeal.τ).loc Cert.MoeSReferenceIdeal.main_arg0) = m ((c.tc : Thread Cert.MoeSIdeal.nD Cert.MoeSIdeal.τ).loc Cert.MoeSIdeal.main_arg0))
    (h1 : m' ((c.tc : Thread Cert.MoeSReferenceIdeal.nD Cert.MoeSReferenceIdeal.τ).loc Cert.MoeSReferenceIdeal.main_arg1) = m ((c.tc : Thread Cert.MoeSIdeal.nD Cert.MoeSIdeal.τ).loc Cert.MoeSIdeal.main_arg1))
    (h2 : m' ((c.tc : Thread Cert.MoeSReferenceIdeal.nD Cert.MoeSReferenceIdeal.τ).loc Cert.MoeSReferenceIdeal.main_arg2) = m ((c.tc : Thread Cert.MoeSIdeal.nD Cert.MoeSIdeal.τ).loc Cert.MoeSIdeal.main_arg2))
    (h3 : m' ((c.tc : Thread Cert.MoeSReferenceIdeal.nD Cert.MoeSReferenceIdeal.τ).loc Cert.MoeSReferenceIdeal.main_arg3) = m ((c.tc : Thread Cert.MoeSIdeal.nD Cert.MoeSIdeal.τ).loc Cert.MoeSIdeal.main_arg3))
    (h4 : m' ((c.tc : Thread Cert.MoeSReferenceIdeal.nD Cert.MoeSReferenceIdeal.τ).loc Cert.MoeSReferenceIdeal.main_arg4) = m ((c.tc : Thread Cert.MoeSIdeal.nD Cert.MoeSIdeal.τ).loc Cert.MoeSIdeal.main_arg4))
    (h5 : m' ((c.tc : Thread Cert.MoeSReferenceIdeal.nD Cert.MoeSReferenceIdeal.τ).loc Cert.MoeSReferenceIdeal.main_arg5) = m ((c.tc : Thread Cert.MoeSIdeal.nD Cert.MoeSIdeal.τ).loc Cert.MoeSIdeal.main_arg5))
    (h6 : m' ((c.tc : Thread Cert.MoeSReferenceIdeal.nD Cert.MoeSReferenceIdeal.τ).loc Cert.MoeSReferenceIdeal.main_arg6) = m ((c.tc : Thread Cert.MoeSIdeal.nD Cert.MoeSIdeal.τ).loc Cert.MoeSIdeal.main_arg6)) :
    Cert.MoeSReferenceIdeal.Value.res_main_v30 m' c = (Cert.MoeSIdeal.Gen.dats m 0 c).arrAt 7 Cert.MoeSIdeal.cfg0.N := by
  rw [Cert.TVal.y_arr m c, Cert.MoeSReferenceIdeal.Read.val_main_v30_eq, h0, h1, h2, h3, h4, h5, h6]
  funext i
  refine (congrArg _ (eq_ix2 i)).trans ?_
  unfold Cert.TVal.args
  exact Cert.TRef.r30 _ _ _ _ _ _ _ (i 0) (i 1)

/-- The sample's launch ends holding what its reference computes. -/
theorem moe_s_value : letI := Cert.MoeSIdeal.Gen.facts; letI := Cert.MoeSReferenceIdeal.Gen.facts
    Cert.algebraic_MoeSIdeal_MoeSReferenceIdeal := by
  intro m g m' g' hpre hagree
  refine ⟨fun c => (Cert.MoeSIdeal.Gen.dats m 0 c).arrAt 7 Cert.MoeSIdeal.cfg0.N, Cert.MoeSIdeal.Value.run_blocks m g,
    (θ_run _ _ _).mono (fun r h c => ⟨(h c).1.trans ?_, (h c).2⟩) (Cert.MoeSReferenceIdeal.Value.run m' g')⟩
  obtain ⟨h0, h1, h2, h3, h4, h5, h6⟩ := hagree c
  exact moe_s_arr m c m' h0 h1 h2 h3 h4 h5 h6

end Cert.Proof

end
-- ==== Proof.SSpec.lean ====
/- The sample's mixer as plain functions of the row and the column. Everything here is over natural numbers: each argument
   array is read at its coordinates taken modulo their sizes, so that two spellings of one element are equal as soon as
   their coordinates are. -/
module

public import Idealize.ShloMosaic.Lib.Pipeline.ValueKit
public import Idealize.ShloMosaic.Lib.Pointwise
public import Idealize.ShloMosaic.PureOps.Ideal.Laws

@[expose] public section

set_option maxRecDepth 16384

noncomputable section

namespace Cert.SSpec

open Idealize.ShloMosaic Idealize.ShloMosaic.TcCoe Idealize.SL.Sem

/-- The argument arrays the two results read. -/
structure In where
  x : FVec Ideal ⟨3, ![128, 1, 1024]⟩ .f32
  g : FVec Ideal ⟨2, ![1, 1024]⟩ .f32
  w : FVec Ideal ⟨3, ![1, 1024, 1792]⟩ .f32
  lg : FVec Ideal ⟨2, ![1, 512]⟩ .f32
  lb : FVec Ideal ⟨2, ![1, 512]⟩ .f32

def X (I : In) (b k : ℕ) : EReal := I.x (ix3 (Fin.ofNat 128 b) 0 (Fin.ofNat 1024 k))
def G (I : In) (k : ℕ) : EReal := I.g (ix2 0 (Fin.ofNat 1024 k))
def W (I : In) (k j : ℕ) : EReal := I.w (ix3 0 (Fin.ofNat 1024 k) (Fin.ofNat 1792 j))
def LG (I : In) (c : ℕ) : EReal := I.lg (ix2 0 (Fin.ofNat 512 c))
def LB (I : In) (c : ℕ) : EReal := I.lb (ix2 0 (Fin.ofNat 512 c))

/-- The root-mean-square factor of a row. -/
def rms (I : In) (b : ℕ) : EReal :=
  Ideal.rsqrt (Ideal.div (∑ k : Fin 1024, X I b k * X I b k) (Ideal.ofBits .f32 0x44800000#32)
    + Ideal.ofBits .f32 0x358637BD#32)

/-- The normalised row. -/
def XN (I : In) (b k : ℕ) : EReal := X I b k * rms I b * G I k

/-- The projected row: queries, keys, values, the gate and the gated columns side by side. -/
def Z (I : In) (b j : ℕ) : EReal := ∑ k : Fin 1024, XN I b k * W I k j

/-- The new values. -/
def V (I : In) (b c : ℕ) : EReal := Z I b (640 + c)

/-- The activation of the gated branch. -/
def gelu (y : EReal) : EReal :=
  Ideal.ofBits .f32 0x3F000000#32 * y * (1 + Ideal.erf (y * Ideal.ofBits .f32 0x3F3504F3#32))

def VG (I : In) (b c : ℕ) : EReal := gelu (Z I b (1280 + c))
def Mu (I : In) (b : ℕ) : EReal := Ideal.div (∑ c : Fin 512, VG I b c) (Ideal.ofBits .f32 0x44000000#32)
def XC (I : In) (b c : ℕ) : EReal := VG I b c - Mu I b
/-- The layer norm of the gated columns. -/
def LN (I : In) (b c : ℕ) : EReal :=
  XC I b c * Ideal.rsqrt (Ideal.div (∑ c : Fin 512, XC I b c * XC I b c) (Ideal.ofBits .f32 0x44000000#32)
    + Ideal.ofBits .f32 0x358637BD#32) * LG I c + LB I c

variable (I : In)

theorem X_at (b : Fin 128) (k : Fin 1024) : X I b k = I.x (ix3 b 0 k) := by
  unfold X
  refine congrArg I.x ((ix3_inj ..).2 ⟨Fin.ext ?_, rfl, Fin.ext ?_⟩) <;> simp only [Fin.val_ofNat] <;> omega

theorem G_at (k : Fin 1024) : G I k = I.g (ix2 0 k) := by
  unfold G
  refine congrArg I.g ((ix2_inj ..).2 ⟨rfl, Fin.ext ?_⟩)
  simp only [Fin.val_ofNat]; omega

theorem LG_at (k : Fin 512) : LG I k = I.lg (ix2 0 k) := by
  unfold LG
  refine congrArg I.lg ((ix2_inj ..).2 ⟨rfl, Fin.ext ?_⟩)
  simp only [Fin.val_ofNat]; omega

theorem LB_at (k : Fin 512) : LB I k = I.lb (ix2 0 k) := by
  unfold LB
  refine congrArg I.lb ((ix2_inj ..).2 ⟨rfl, Fin.ext ?_⟩)
  simp only [Fin.val_ofNat]; omega

theorem W_at (k : Fin 1024) (j : Fin 1792) : W I k j = I.w (ix3 0 k j) := by
  unfold W
  refine congrArg I.w ((ix3_inj ..).2 ⟨rfl, Fin.ext ?_, Fin.ext ?_⟩) <;> simp only [Fin.val_ofNat] <;> omega

end Cert.SSpec
-- ==== Proof.SKer.lean ====
/- The kernel's stages, read at an index, are the functions of `SSpec`. -/
module

public import proofs.«01_k».proof.Proof.SSpec
public import proofs.«01_k».proof.Proof.Gen.SampleIdeal.Skeleton

@[expose] public section

set_option maxRecDepth 16384

noncomputable section

namespace Cert.SKer

open Idealize.ShloMosaic Idealize.ShloMosaic.TcCoe Idealize.SL.Sem
open Cert.SSpec Cert.SampleIdeal Cert.SampleIdeal.Gen

variable (I : In)

theorem z_at (x : Vec Ideal S128x1024 .f32) (g : Vec Ideal S1x1024 .f32) (w : Vec Ideal S1024x2432 .bf16)
    (hx : ∀ (b : Fin 128) (k : Fin 1024), x (ix2 b k) = X I b k) (hg : ∀ k : Fin 1024, g (ix2 0 k) = G I k)
    (hw : ∀ (k : Fin 1024) (j : Fin 2432), 1280 ≤ j.val → w (ix2 k j) = W I k (j - 640)) (b : Fin 128) (j : Fin 2432)
    (hj : 1280 ≤ j.val) : k0_pay3 x g w (ix2 b j) = Z I b (j - 640) := by
  pointwise [k0_pay3, k0_pay2]
  simp only [hx, hg, hw _ _ hj]
  rfl

theorem v_at (x : Vec Ideal S128x1024 .f32) (g : Vec Ideal S1x1024 .f32) (w : Vec Ideal S1024x2432 .bf16)
    (hx : ∀ (b : Fin 128) (k : Fin 1024), x (ix2 b k) = X I b k) (hg : ∀ k : Fin 1024, g (ix2 0 k) = G I k)
    (hw : ∀ (k : Fin 1024) (j : Fin 2432), 1280 ≤ j.val → w (ix2 k j) = W I k (j - 640)) (b l : Fin 128) :
    k0_pay7 x g w (ix2 b l) = V I b l := by
  pointwise [k0_pay7]
  refine (z_at I x g w hx hg hw b _ (by simp)).trans ?_
  exact congrArg (Z I b) (by simp; omega)

theorem vg_at (z : Vec Ideal S128x2432 .f32)
    (hz : ∀ (b : Fin 128) (j : Fin 2432), 1280 ≤ j.val → z (ix2 b j) = Z I b (j - 640)) (b : Fin 128) (c : Fin 512) :
    k0_pay195 (F := Ideal) z (ix2 b c) = VG I b c := by
  pointwise [k0_pay195]
  rw [hz b _ (by simp; omega)]
  rw [show 1920 + (c : ℕ) - 640 = 1280 + c by omega]
  rfl

theorem ln_at (y : Vec Ideal S128x512 .f32) (g h : Vec Ideal S1x512 .f32)
    (hy : ∀ (b : Fin 128) (c : Fin 512), y (ix2 b c) = VG I b c) (hg : ∀ c : Fin 512, g (ix2 0 c) = LG I c)
    (hh : ∀ c : Fin 512, h (ix2 0 c) = LB I c) (b : Fin 128) (c : Fin 512) :
    k0_pay196 (F := Ideal) y g h (ix2 b c) = LN I b c := by
  pointwise [k0_pay196]
  simp only [hy, hg, hh]
  rfl

end Cert.SKer
-- ==== Proof.SLay.lean ====
/- The host's layout operations on the sample mixer's arguments, read at an index. -/
module

public import proofs.«01_k».proof.Proof.SKer

@[expose] public section

set_option maxRecDepth 16384

noncomputable section

namespace Cert.SVal

open Idealize.ShloMosaic Idealize.ShloMosaic.TcCoe Idealize.SL.Sem
open Cert.SSpec Cert.SampleIdeal Cert.SampleIdeal.Gen

theorem cast_x (x : FVec Ideal S128x1x1024 .f32) (b : Fin 128) (k : Fin 1024) :
    shapeCast S128x1024 x shapeCasts_S128x1x1024_S128x1024 (ix2 b k) = x (ix3 b 0 k) := by
  pointwise []

theorem row_g (x : FVec Ideal S1x1024 .f32) (k : Fin 1024) :
    broadcastInDim S1x1024 ![1] bcast_S1024_S1x1024_1 (shapeCast S1024 x shapeCasts_S1x1024_S1024 : FVec Ideal S1024 .f32)
      (ix2 0 k) = x (ix2 0 k) := by
  pointwise []

theorem row_l (x : FVec Ideal S1x512 .f32) (k : Fin 512) :
    broadcastInDim S1x512 ![1] bcast_S512_S1x512_1 (shapeCast S512 x shapeCasts_S1x512_S512 : FVec Ideal S512 .f32)
      (ix2 0 k) = x (ix2 0 k) := by
  pointwise []

theorem cat_at (a b : FVec Ideal S1024x512 .f32) (d e : FVec Ideal S1024x128 .f32) (f : FVec Ideal S1024x1152 .f32)
    (k : Fin 1024) (j : Fin 2432) (hj : 1280 ≤ j.val) :
    concatenate S1024x2432 1 [⟨S1024x512, a⟩, ⟨S1024x512, b⟩, ⟨S1024x128, d⟩, ⟨S1024x128, e⟩, ⟨S1024x1152, f⟩]
      concatenates_S1024x512_S1024x512_S1024x128_S1024x128_S1024x1152_S1024x2432_d1 (ix2 k j)
      = f (ix2 k (⟨j - 1280, by omega⟩ : Fin 1152)) := by
  pointwise []
  split_ifs <;> first | omega | rfl

theorem slice_at (x : FVec Ideal S1x1024x1792 .f32) (k : Fin 1024) (l : Fin 1152) :
    extractStridedSlice S1024x1152 ![0, 640]
        (shapeCast S1024x1792 x shapeCasts_S1x1024x1792_S1024x1792 : FVec Ideal S1024x1792 .f32)
        slices_S1024x1792_S1024x1152_0_640 (ix2 k l) = x (ix3 0 k (⟨640 + l, by omega⟩ : Fin 1792)) := by
  pointwise []

end Cert.SVal
-- ==== Proof.SRef.lean ====
/- The reference's stages, read at an index, are the functions of `SSpec`. -/
module

public import proofs.«01_k».proof.Proof.SSpec
public import proofs.«01_k».proof.Proof.Gen.SampleReferenceIdeal.Read

@[expose] public section

set_option maxRecDepth 16384

noncomputable section

namespace Cert.SRef

open Idealize.ShloMosaic Idealize.ShloMosaic.TcCoe Idealize.SL.Sem
open Cert.SSpec Cert.SampleReferenceIdeal Cert.SampleReferenceIdeal.Read

variable (I : In)

theorem r13 (b : Fin 128) (o : Fin 1) (k : Fin 1024) :
    val_main_v13 (F := Ideal) I.x I.g (ix3 b o k) = XN I b k := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  obtain rfl : o = 0 := Subsingleton.elim _ _
  simp only [XN, rms, X_at, G_at]

theorem r15 (b : Fin 128) (o : Fin 1) (j : Fin 1792) :
    val_main_v15 (F := Ideal) I.x I.g I.w (ix3 b o j) = Z I b j := by
  pointwise [val_main_v15, val_main_v14]
  simp only [r13, Z, W_at]

theorem r24 (b : Fin 128) (o : Fin 1) (c : Fin 512) :
    val_main_v24 (F := Ideal) I.x I.g I.w (ix3 b o c) = VG I b c := by
  pointwise [val_main_v24, val_main_v23, val_main_v22, val_main_v21, val_main_v20, val_main_v19, val_main_v18,
    val_main_v17, val_main_cst_2, val_main_cst_3, r15]
  rw [EReal.neg_mul, Ideal.erfc_neg]; rfl

theorem r48 (b : Fin 128) (o : Fin 1) (c : Fin 512) :
    val_main_v48 (F := Ideal) I.x I.g I.w I.lg I.lb (ix3 b o c) = LN I b c := by
  pointwise [val_main_v48, val_main_v47, val_main_v46, val_main_v45, val_main_v44, val_main_v43, val_main_v42,
    val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_cst_4, val_main_cst_5, val_main_cst_6, val_main_cst_7, val_main_cst_8, r24]
  simp only [LN, XC, Mu, LG_at, LB_at]

theorem r49 (b : Fin 128) (c : Fin 128) : val_main_v49 (F := Ideal) I.x I.g I.w (ix2 b c) = V I b c := by
  pointwise [val_main_v49, val_main_v16, r15]
  rfl

theorem r50 (b : Fin 128) (c : Fin 512) : val_main_v50 (F := Ideal) I.x I.g I.w I.lg I.lb (ix2 b c) = LN I b c := by
  pointwise [val_main_v50, r48]

end Cert.SRef
-- ==== Proof.SEnt.lean ====
/- The blocks of the sample mixer's launch, over the arguments. -/
module

public import proofs.«01_k».proof.Proof.SKer
public import proofs.«01_k».proof.Proof.SLay
public import proofs.«01_k».proof.Proof.SRef
public import proofs.«01_k».proof.Proof.Gen.SampleIdeal.Value
public import Idealize.ShloMosaic.Lib.Pipeline.ReadBack
public import Idealize.ShloMosaic.Lib.Claim
public import Idealize.ShloMosaic.Lib.StableHlo.RunRead

@[expose] public section

set_option maxRecDepth 16384

noncomputable section

namespace Cert.SVal

open Idealize.ShloMosaic Idealize.ShloMosaic.TcCoe Idealize.SL.Sem
open Cert.SSpec hiding V
open Cert.SampleIdeal Cert.SampleIdeal.Gen

variable (m : (ℓ : Loc nD τ sig) → Buf (Elt Ideal) ℓ) (c : Dev nD)

/-- The arguments of core `c`. -/
def inp : In where
  x := m ((c : Thread nD τ).loc main_arg0)
  g := m ((c : Thread nD τ).loc main_arg3)
  w := m ((c : Thread nD τ).loc main_arg4)
  lg := m ((c : Thread nD τ).loc main_arg6)
  lb := m ((c : Thread nD τ).loc main_arg7)

/-! The arrays that the region finds, over the arguments. -/

theorem e1 : V m c main_v92 = shapeCast S128x1024 (m ((c : Thread nD τ).loc main_arg0)) shapeCasts_S128x1x1024_S128x1024 := by
  simp only [V, hostOps0, List.flatten_cons, List.flatten_nil, List.append_nil, List.cons_append, List.nil_append]
  after_reads_simp
  rfl

theorem e4 : V m c main_v25 = broadcastInDim S1x1024 ![1] bcast_S1024_S1x1024_1
    (shapeCast S1024 (m ((c : Thread nD τ).loc main_arg3)) shapeCasts_S1x1024_S1024 : FVec Ideal S1024 .f32) := by
  simp only [V, hostOps0, List.flatten_cons, List.flatten_nil, List.append_nil, List.cons_append, List.nil_append]
  after_reads_simp
  rfl

theorem e8 : V m c main_v29 = broadcastInDim S1x512 ![1] bcast_S512_S1x512_1
    (shapeCast S512 (m ((c : Thread nD τ).loc main_arg6)) shapeCasts_S1x512_S512 : FVec Ideal S512 .f32) := by
  simp only [V, hostOps0, List.flatten_cons, List.flatten_nil, List.append_nil, List.cons_append, List.nil_append]
  after_reads_simp
  rfl

theorem e9 : V m c main_v31 = broadcastInDim S1x512 ![1] bcast_S512_S1x512_1
    (shapeCast S512 (m ((c : Thread nD τ).loc main_arg7)) shapeCasts_S1x512_S512 : FVec Ideal S512 .f32) := by
  simp only [V, hostOps0, List.flatten_cons, List.flatten_nil, List.append_nil, List.cons_append, List.nil_append]
  after_reads_simp
  rfl

/-- The packed weights: some four arrays beside the columns of the values and of the gated branch. -/
theorem e5 : ∃ (a b : FVec Ideal S1024x512 .f32) (d e : FVec Ideal S1024x128 .f32),
    V m c main_v21 = (truncf .bf16 (concatenate S1024x2432 1 [⟨S1024x512, a⟩, ⟨S1024x512, b⟩, ⟨S1024x128, d⟩, ⟨S1024x128, e⟩,
      ⟨S1024x1152, (extractStridedSlice S1024x1152 ![0, 640]
        (shapeCast S1024x1792 (m ((c : Thread nD τ).loc main_arg4)) shapeCasts_S1x1024x1792_S1024x1792 : FVec Ideal S1024x1792 .f32)
        slices_S1024x1792_S1024x1152_0_640 : FVec Ideal S1024x1152 .f32)⟩]
      concatenates_S1024x512_S1024x512_S1024x128_S1024x128_S1024x1152_S1024x2432_d1 : FVec Ideal S1024x2432 .f32)
      bitsLt_bf16_f32 : FVec Ideal S1024x2432 .bf16) := by
  simp only [V, hostOps0, List.flatten_cons, List.flatten_nil, List.append_nil, List.cons_append, List.nil_append]
  after_reads_simp
  exact ⟨_, _, _, _, rfl⟩

/-- The block indices of the windows that are read. -/
theorem idx : ∀ t : Fin cfg0.N, win0_1.index t = ![0, 0] ∧ win0_4.index t = ![0, 0] ∧ win0_5.index t = ![0, 0]
    ∧ win0_8.index t = ![0, 0] ∧ win0_9.index t = ![0, 0] ∧ win0_20.index t = ![0, 0] ∧ win0_21.index t = ![0, 0] :=
  (by decide +kernel : ∀ t : Fin grid0.N, _)

theorem b1 (t : Fin cfg0.N) (b : Fin 128) (k : Fin 1024) : (win0_1.blk t).view.emb (ix2 b k) = (ix2 b k : S128x1024.Idx) := by
  have h := (idx t).1
  blk_ext! <;> rw [h] <;> simp <;> omega

theorem b4 (t : Fin cfg0.N) (k : Fin 1024) : (win0_4.blk t).view.emb (ix2 0 k) = (ix2 0 k : S1x1024.Idx) := by
  have h := (idx t).2.1
  blk_ext! <;> rw [h] <;> simp <;> omega

theorem b5 (t : Fin cfg0.N) (k : Fin 1024) (j : Fin 2432) : (win0_5.blk t).view.emb (ix2 k j) = (ix2 k j : S1024x2432.Idx) := by
  have h := (idx t).2.2.1
  blk_ext! <;> rw [h] <;> simp <;> omega

theorem b8 (t : Fin cfg0.N) (k : Fin 512) : (win0_8.blk t).view.emb (ix2 0 k) = (ix2 0 k : S1x512.Idx) := by
  have h := (idx t).2.2.2.1
  blk_ext! <;> rw [h] <;> simp <;> omega

theorem b9 (t : Fin cfg0.N) (k : Fin 512) : (win0_9.blk t).view.emb (ix2 0 k) = (ix2 0 k : S1x512.Idx) := by
  have h := (idx t).2.2.2.2.1
  blk_ext! <;> rw [h] <;> simp <;> omega

/-! The blocks. -/

theorem x_blk (t : Fin cfg0.N) (b : Fin 128) (k : Fin 1024) : iblk m c 1 t (ix2 b k) = X (inp m c) b k := by
  refine Eq.trans (congrArg (V m c main_v92) (b1 t b k)) ?_
  rw [e1, X_at]
  exact cast_x _ b k

theorem g_blk (t : Fin cfg0.N) (k : Fin 1024) : iblk m c 4 t (ix2 0 k) = G (inp m c) k := by
  refine Eq.trans (congrArg (V m c main_v25) (b4 t k)) ?_
  rw [e4, G_at]
  exact row_g _ k

theorem w_blk (t : Fin cfg0.N) (k : Fin 1024) (j : Fin 2432) (hj : 1280 ≤ j.val) :
    iblk m c 5 t (ix2 k j) = W (inp m c) k (j - 640) := by
  refine Eq.trans (congrArg (V m c main_v21) (b5 t k j)) ?_
  obtain ⟨a, b, d, e, h⟩ := e5 m c
  rw [h]
  refine (cat_at a b d e _ k j hj).trans ((slice_at _ k _).trans ?_)
  refine Eq.trans (W_at (inp m c) k (⟨640 + (j.val - 1280), by omega⟩ : Fin 1792)).symm ?_
  exact congrArg (W (inp m c) k) (show 640 + (j.val - 1280) = j.val - 640 by omega)

theorem lg_blk (t : Fin cfg0.N) (k : Fin 512) : iblk m c 8 t (ix2 0 k) = LG (inp m c) k := by
  refine Eq.trans (congrArg (V m c main_v29) (b8 t k)) ?_
  rw [e8, LG_at]
  exact row_l _ k

theorem lb_blk (t : Fin cfg0.N) (k : Fin 512) : iblk m c 9 t (ix2 0 k) = LB (inp m c) k := by
  refine Eq.trans (congrArg (V m c main_v31) (b9 t k)) ?_
  rw [e9, LB_at]
  exact row_l _ k

end Cert.SVal
-- ==== Proof.SVal.lean ====
/- What the sample mixer's launch leaves in the arrays of the new values and of the new gMLP rows. -/
module

public import proofs.«01_k».proof.Proof.SEnt

@[expose] public section

set_option maxRecDepth 16384

noncomputable section

namespace Cert.SVal

open Idealize.ShloMosaic Idealize.ShloMosaic.TcCoe Idealize.SL.Sem
open Cert.SSpec hiding V
open Cert.SampleIdeal Cert.SampleIdeal.Gen

variable (m : (ℓ : Loc nD τ sig) → Buf (Elt Ideal) ℓ) (c : Dev nD)

theorem v_out (t : Fin cfg0.N) : (outsAt0 m c t).2.2.2.2.1 = k0_pay7 (iblk m c 1 t) (iblk m c 4 t) (iblk m c 5 t) := by
  unfold outsAt0
  frame_out
  simp only [read_unread_whole]

theorem n_out (t : Fin cfg0.N) : (outsAt0 m c t).2.2.2.2.2
    = k0_pay196 (k0_pay195 (k0_pay3 (iblk m c 1 t) (iblk m c 4 t) (iblk m c 5 t))) (iblk m c 8 t) (iblk m c 9 t) := by
  unfold outsAt0
  frame_out
  simp only [read_unread_whole]

theorem v_arr : (dats m 0 c).arrAt 20 cfg0.N = fun i => SSpec.V (inp m c) (i 0) (i 1) := by
  refine (dats m 0 c).arrAt_eq_of_covers 20 _ (by decide +kernel) fun t hf y => ?_
  blk_simp
  rw [after0_20, v_out]
  obtain ⟨b, l, rfl⟩ : ∃ (b l : Fin 128), y = ix2 b l := ⟨y 0, y 1, eq_ix2 y⟩
  rw [SKer.v_at (inp m c) _ _ _ (x_blk m c t) (g_blk m c t) (w_blk m c t)]
  rw [(idx t).2.2.2.2.2.1]
  show SSpec.V (inp m c) b.val l.val = SSpec.V (inp m c) (0 * 128 + b.val) (0 * 128 + l.val)
  rw [zero_mul, zero_add, zero_add]

theorem n_arr : (dats m 0 c).arrAt 21 cfg0.N = fun i => LN (inp m c) (i 0) (i 1) := by
  refine (dats m 0 c).arrAt_eq_of_covers 21 _ (by decide +kernel) fun t hf y => ?_
  blk_simp
  rw [after0_21, n_out]
  obtain ⟨b, l, rfl⟩ : ∃ (b : Fin 128) (l : Fin 512), y = ix2 b l := ⟨y 0, y 1, eq_ix2 y⟩
  rw [SKer.ln_at (inp m c) _ _ _ (SKer.vg_at (inp m c) _ (SKer.z_at (inp m c) _ _ _ (x_blk m c t) (g_blk m c t) (w_blk m c t)))
    (lg_blk m c t) (lb_blk m c t)]
  rw [(idx t).2.2.2.2.2.2]
  show LN (inp m c) b.val l.val = LN (inp m c) (0 * 128 + b.val) (0 * 512 + l.val)
  rw [zero_mul, zero_mul, zero_add, zero_add]

end Cert.SVal
-- ==== Proof.SPair.lean ====
/- The sample mixer's launch and its reference end holding the same new values and the same new gMLP rows. -/
module

public import proofs.«01_k».proof.Defs
public import proofs.«01_k».proof.Proof.Gen.SampleIdeal
public import proofs.«01_k».proof.Proof.Gen.SampleReferenceIdeal
public import proofs.«01_k».proof.Proof.SVal
public import Idealize.ShloMosaic.Adequacy
public import Idealize.ShloMosaic.Init

@[expose] public section

noncomputable section

namespace Cert.Proof

open Idealize.ShloMosaic Idealize.ShloMosaic.TcCoe Idealize.SL.Sem

/-- The reference's new values. -/
theorem sample_v
    (m : (ℓ : Loc Cert.SampleIdeal.nD Cert.SampleIdeal.τ Cert.SampleIdeal.sig) → Buf (Elt Ideal) ℓ) (c : Dev Cert.SampleIdeal.nD)
    (m' : (ℓ : Loc Cert.SampleReferenceIdeal.nD Cert.SampleReferenceIdeal.τ Cert.SampleReferenceIdeal.sig) → Buf (Elt Ideal) ℓ)
    (h0 : m' ((c.tc : Thread Cert.SampleReferenceIdeal.nD Cert.SampleReferenceIdeal.τ).loc Cert.SampleReferenceIdeal.main_arg0)
      = m ((c.tc : Thread Cert.SampleIdeal.nD Cert.SampleIdeal.τ).loc Cert.SampleIdeal.main_arg0))
    (h3 : m' ((c.tc : Thread Cert.SampleReferenceIdeal.nD Cert.SampleReferenceIdeal.τ).loc Cert.SampleReferenceIdeal.main_arg3)
      = m ((c.tc : Thread Cert.SampleIdeal.nD Cert.SampleIdeal.τ).loc Cert.SampleIdeal.main_arg3))
    (h4 : m' ((c.tc : Thread Cert.SampleReferenceIdeal.nD Cert.SampleReferenceIdeal.τ).loc Cert.SampleReferenceIdeal.main_arg4)
      = m ((c.tc : Thread Cert.SampleIdeal.nD Cert.SampleIdeal.τ).loc Cert.SampleIdeal.main_arg4)) :
    Cert.SampleReferenceIdeal.Read.val_main_v49 (F := Ideal)
      (m' ((c.tc : Thread Cert.SampleReferenceIdeal.nD Cert.SampleReferenceIdeal.τ).loc Cert.SampleReferenceIdeal.main_arg0))
      (m' ((c.tc : Thread Cert.SampleReferenceIdeal.nD Cert.SampleReferenceIdeal.τ).loc Cert.SampleReferenceIdeal.main_arg3))
      (m' ((c.tc : Thread Cert.SampleReferenceIdeal.nD Cert.SampleReferenceIdeal.τ).loc Cert.SampleReferenceIdeal.main_arg4))
      = (Cert.SampleIdeal.Gen.dats m 0 c).arrAt 20 Cert.SampleIdeal.cfg0.N := by
  rw [Cert.SVal.v_arr m c, h0, h3, h4]
  funext i
  refine (congrArg _ (eq_ix2 i)).trans ?_
  exact Cert.SRef.r49 (Cert.SVal.inp m c) (i 0) (i 1)

/-- The reference's new gMLP rows. -/
theorem sample_n
    (m : (ℓ : Loc Cert.SampleIdeal.nD Cert.SampleIdeal.τ Cert.SampleIdeal.sig) → Buf (Elt Ideal) ℓ) (c : Dev Cert.SampleIdeal.nD)
    (m' : (ℓ : Loc Cert.SampleReferenceIdeal.nD Cert.SampleReferenceIdeal.τ Cert.SampleReferenceIdeal.sig) → Buf (Elt Ideal) ℓ)
    (h0 : m' ((c.tc : Thread Cert.SampleReferenceIdeal.nD Cert.SampleReferenceIdeal.τ).loc Cert.SampleReferenceIdeal.main_arg0)
      = m ((c.tc : Thread Cert.SampleIdeal.nD Cert.SampleIdeal.τ).loc Cert.SampleIdeal.main_arg0))
    (h3 : m' ((c.tc : Thread Cert.SampleReferenceIdeal.nD Cert.SampleReferenceIdeal.τ).loc Cert.SampleReferenceIdeal.main_arg3)
      = m ((c.tc : Thread Cert.SampleIdeal.nD Cert.SampleIdeal.τ).loc Cert.SampleIdeal.main_arg3))
    (h4 : m' ((c.tc : Thread Cert.SampleReferenceIdeal.nD Cert.SampleReferenceIdeal.τ).loc Cert.SampleReferenceIdeal.main_arg4)
      = m ((c.tc : Thread Cert.SampleIdeal.nD Cert.SampleIdeal.τ).loc Cert.SampleIdeal.main_arg4))
    (h6 : m' ((c.tc : Thread Cert.SampleReferenceIdeal.nD Cert.SampleReferenceIdeal.τ).loc Cert.SampleReferenceIdeal.main_arg6)
      = m ((c.tc : Thread Cert.SampleIdeal.nD Cert.SampleIdeal.τ).loc Cert.SampleIdeal.main_arg6))
    (h7 : m' ((c.tc : Thread Cert.SampleReferenceIdeal.nD Cert.SampleReferenceIdeal.τ).loc Cert.SampleReferenceIdeal.main_arg7)
      = m ((c.tc : Thread Cert.SampleIdeal.nD Cert.SampleIdeal.τ).loc Cert.SampleIdeal.main_arg7)) :
    Cert.SampleReferenceIdeal.Value.res_main_v50 m' c = (Cert.SampleIdeal.Gen.dats m 0 c).arrAt 21 Cert.SampleIdeal.cfg0.N := by
  rw [Cert.SVal.n_arr m c, Cert.SampleReferenceIdeal.Read.val_main_v50_eq, h0, h3, h4, h6, h7]
  funext i
  refine (congrArg _ (eq_ix2 i)).trans ?_
  exact Cert.SRef.r50 (Cert.SVal.inp m c) (i 0) (i 1)

/-- The sample mixer's launch ends holding what its reference computes. -/
theorem sample_value : letI := Cert.SampleIdeal.Gen.facts; letI := Cert.SampleReferenceIdeal.Gen.facts
    Cert.algebraic_SampleIdeal_SampleReferenceIdeal := by
  intro m g m' g' hpre hagree
  refine ⟨fun c => (Cert.SampleIdeal.Gen.dats m 0 c).arrAt 20 Cert.SampleIdeal.cfg0.N,
    fun c => (Cert.SampleIdeal.Gen.dats m 0 c).arrAt 21 Cert.SampleIdeal.cfg0.N,
    (θ_run _ _ _).mono (fun r h c => (h c).2.2.2.2) (Cert.SampleIdeal.Value.run_blocks m g),
    (θ_run _ _ _).mono (fun r h c => ⟨(h c).1.trans ?_, (h c).2.1.trans ?_, (h c).2.2⟩) (Cert.SampleReferenceIdeal.Value.run m' g')⟩
  · obtain ⟨h0, _, _, h3, h4, _⟩ := hagree c
    exact (Cert.SampleReferenceIdeal.Read.val_main_v49_eq _ _ _).trans (sample_v m c m' h0 h3 h4)
  · obtain ⟨h0, _, _, h3, h4, _, h6, h7, _⟩ := hagree c
    exact sample_n m c m' h0 h3 h4 h6 h7

end Cert.Proof

end
-- ==== Proof.lean ====
/- The claims about version 00's two expert launches and its sample mixer: assembly. -/
module

public import proofs.«01_k».proof.Defs
public import proofs.«01_k».proof.Proof.Gen.Moe
public import proofs.«01_k».proof.Proof.Gen.Moe.Frame
public import proofs.«01_k».proof.Proof.Gen.MoeIdeal
public import proofs.«01_k».proof.Proof.Gen.MoeReferenceIdeal
public import proofs.«01_k».proof.Proof.Gen.MoeS
public import proofs.«01_k».proof.Proof.Gen.MoeS.Frame
public import proofs.«01_k».proof.Proof.Gen.MoeSIdeal
public import proofs.«01_k».proof.Proof.Gen.MoeSReferenceIdeal
public import proofs.«01_k».proof.Proof.MPair
public import proofs.«01_k».proof.Proof.TPair
public import proofs.«01_k».proof.Proof.Gen.Sample
public import proofs.«01_k».proof.Proof.Gen.Sample.Frame
public import proofs.«01_k».proof.Proof.Gen.SampleIdeal
public import proofs.«01_k».proof.Proof.Gen.SampleReferenceIdeal
public import proofs.«01_k».proof.Proof.SPair
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

/-- The prompt's reference runs and keeps its arguments. -/
theorem moe_ref_frame : letI := Cert.MoeReferenceIdeal.Gen.facts
    Cert.quiescent_MoeReferenceIdeal := by
  intro m g hpre
  exact (θ_run _ _ _).mono (fun r h => ⟨fun c => (h c).2, sem_eq_zero_of_no_sems (by decide) _⟩)
    (Cert.MoeReferenceIdeal.Value.run m g)

/-- The sample's reference runs and keeps its arguments. -/
theorem moe_s_ref_frame : letI := Cert.MoeSReferenceIdeal.Gen.facts
    Cert.quiescent_MoeSReferenceIdeal := by
  intro m g hpre
  exact (θ_run _ _ _).mono (fun r h => ⟨fun c => (h c).2, sem_eq_zero_of_no_sems (by decide) _⟩)
    (Cert.MoeSReferenceIdeal.Value.run m g)

/-- The sample mixer's reference runs and keeps its arguments. -/
theorem sample_ref_frame : letI := Cert.SampleReferenceIdeal.Gen.facts
    Cert.quiescent_SampleReferenceIdeal := by
  intro m g hpre
  exact (θ_run _ _ _).mono (fun r h => ⟨fun c => (h c).2.2, sem_eq_zero_of_no_sems (by decide) _⟩)
    (Cert.SampleReferenceIdeal.Value.run m g)

theorem claim : Cert.Claim :=
  ⟨Cert.Moe.Gen.facts, Cert.MoeIdeal.Gen.facts, Cert.MoeReferenceIdeal.Gen.facts,
    Cert.MoeS.Gen.facts, Cert.MoeSIdeal.Gen.facts, Cert.MoeSReferenceIdeal.Gen.facts,
    Cert.Sample.Gen.facts, Cert.SampleIdeal.Gen.facts, Cert.SampleReferenceIdeal.Gen.facts,
    fun m ρ _ => Cert.Moe.Gen.frame m ρ, fun m ρ _ => Cert.MoeIdeal.Gen.frame m ρ, moe_ref_frame,
    fun m ρ _ => Cert.MoeS.Gen.frame m ρ, fun m ρ _ => Cert.MoeSIdeal.Gen.frame m ρ, moe_s_ref_frame,
    fun m ρ _ => Cert.Sample.Gen.frame m ρ, fun m ρ _ => Cert.SampleIdeal.Gen.frame m ρ, sample_ref_frame,
    trivial, moe_value, trivial, moe_s_value, trivial, sample_value⟩

end Cert.Proof

end
